-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).1 = (fun _ => 1#1)
    ∧ (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.1 = (fun _ => 1#1)
    ∧ (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.1 = (fun _ => 1#1)
    ∧ (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.1 = (fun _ => 1#1)
    ∧ (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.1 = (fun _ => 1#1)
    ∧ (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.1 = (fun _ => 1#1)
    ∧ (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.1 = (fun _ => 1#1)
    ∧ (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.1 = (fun _ => 1#1)
    ∧ (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.1 = (fun _ => 1#1)
    ∧ (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.1 = (fun _ => 1#1)
    ∧ (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.2.1 = (fun _ => 1#1)
    ∧ (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))).2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).1 = (fun _ => 1#1)
    ∧ (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.1 = (fun _ => 1#1)
    ∧ (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.1 = (fun _ => 1#1)
    ∧ (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.1 = (fun _ => 1#1)
    ∧ (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.1 = (fun _ => 1#1)
    ∧ (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.1 = (fun _ => 1#1)
    ∧ (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.1 = (fun _ => 1#1)
    ∧ (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.1 = (fun _ => 1#1)
    ∧ (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.1 = (fun _ => 1#1)
    ∧ (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.1 = (fun _ => 1#1)
    ∧ (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.2.1 = (fun _ => 1#1)
    ∧ (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))).2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  True

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v204) = v0 c
          ∧ r.2.mem ((c.tc : Thread Cert.ReferenceIdeal.nD Cert.ReferenceIdeal.τ).loc Cert.ReferenceIdeal.main_v188) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def holds_KernelIdeal_near_pre_pre [hKernelIdeal : Cert.KernelIdeal.Facts] [hPre_pre : Cert.Pre_pre.Facts] [hPost_near : Cert.Post_near.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ (Cert.Post_near.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (r.2.mem ((c.tc : Thread Cert.KernelIdeal.nD Cert.KernelIdeal.τ).loc Cert.KernelIdeal.main_v1)) (r.2.mem ((c.tc : Thread Cert.KernelIdeal.nD Cert.KernelIdeal.τ).loc Cert.KernelIdeal.main_v2))) = (fun _ => 1#1))

def Claim : Prop :=
  ∃ (hKernel : Cert.Kernel.Facts) (hKernelIdeal : Cert.KernelIdeal.Facts) (hReferenceIdeal : Cert.ReferenceIdeal.Facts) (hPre_pre : Cert.Pre_pre.Facts) (hPost_near : Cert.Post_near.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
    ∧ holds_KernelIdeal_near_pre_pre (hKernelIdeal := hKernelIdeal) (hPre_pre := hPre_pre) (hPost_near := hPost_near)
-- ==== Post_near.lean ====
abbrev S16384 : Shape := ⟨1, ![16384]⟩
abbrev S8x32 : Shape := ⟨2, ![8, 32]⟩
abbrev S49x128 : Shape := ⟨2, ![49, 128]⟩
abbrev S128 : Shape := ⟨1, ![128]⟩
abbrev S128x128 : Shape := ⟨2, ![128, 128]⟩
abbrev S64x128 : Shape := ⟨2, ![64, 128]⟩
abbrev S128x64 : Shape := ⟨2, ![128, 64]⟩
abbrev S64 : Shape := ⟨1, ![64]⟩
abbrev S64x8 : Shape := ⟨2, ![64, 8]⟩
abbrev S8 : Shape := ⟨1, ![8]⟩
abbrev S16384x8 : Shape := ⟨2, ![16384, 8]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x32 : Shape := ⟨2, ![16384, 32]⟩
abbrev S16384x49 : Shape := ⟨2, ![16384, 49]⟩
abbrev S16384x128 : Shape := ⟨2, ![16384, 128]⟩
abbrev S1x128 : Shape := ⟨2, ![1, 128]⟩
abbrev S16384x1x128 : Shape := ⟨3, ![16384, 1, 128]⟩
abbrev S16384x1x64 : Shape := ⟨3, ![16384, 1, 64]⟩
abbrev S16384x1x1 : Shape := ⟨3, ![16384, 1, 1]⟩
abbrev S64x1 : Shape := ⟨2, ![64, 1]⟩
abbrev S64x64 : Shape := ⟨2, ![64, 64]⟩
abbrev S16384x64 : Shape := ⟨2, ![16384, 64]⟩
abbrev S1x64 : Shape := ⟨2, ![1, 64]⟩
abbrev S1x8 : Shape := ⟨2, ![1, 8]⟩

class Facts : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x32_0 : S16384.BroadcastsInDim S16384x32 (![0] : Fin 1 → Fin S16384x32.rank)
  bcast_S_S16384x32 : S_.BroadcastsInDim S16384x32 (![] : Fin 0 → Fin S16384x32.rank)
  concatenates_S16384x1_S16384x1_S16384x1_S16384x1_S16384x1_S16384x1_S16384x1_S16384x1_S16384x8_d1 : Shape.Concatenates [S16384x1, S16384x1, S16384x1, S16384x1, S16384x1, S16384x1, S16384x1, S16384x1] S16384x8 1
  concatenates_S16384x32_S16384x8_S16384x8_S16384x1_S16384x49_d1 : Shape.Concatenates [S16384x32, S16384x8, S16384x8, S16384x1] S16384x49 1
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S16384x128_S16384x1x128_0_2 : S16384x128.BroadcastsInDim S16384x1x128 (![0, 2] : Fin 2 → Fin S16384x1x128.rank)
  reducesTo_S16384x1x64_S16384x1_d2 : S16384x1x64.ReducesTo [2] S16384x1
  bcast_S16384x1_S16384x1x1_0_1 : S16384x1.BroadcastsInDim S16384x1x1 (![0, 1] : Fin 2 → Fin S16384x1x1.rank)
  bcast_S16384x1x1_S16384x1x64_0_1_2 : S16384x1x1.BroadcastsInDim S16384x1x64 (![0, 1, 2] : Fin 3 → Fin S16384x1x64.rank)
  bcast_S_S64x128 : S_.BroadcastsInDim S64x128 (![] : Fin 0 → Fin S64x128.rank)
  reducesTo_S64x128_S_d0_1 : S64x128.ReducesTo [0, 1] S_
  bcast_S_S16384x1x64 : S_.BroadcastsInDim S16384x1x64 (![] : Fin 0 → Fin S16384x1x64.rank)
  reducesTo_S16384x1_S_d0_1 : S16384x1.ReducesTo [0, 1] S_
  reducesTo_S64x128_S64_d1 : S64x128.ReducesTo [1] S64
  bcast_S64_S64x1_0 : S64.BroadcastsInDim S64x1 (![0] : Fin 1 → Fin S64x1.rank)
  bcast_S_S64x1 : S_.BroadcastsInDim S64x1 (![] : Fin 0 → Fin S64x1.rank)
  bcast_S64x1_S64x128_0_1 : S64x1.BroadcastsInDim S64x128 (![0, 1] : Fin 2 → Fin S64x128.rank)
  transposes_S64x128_S128x64_1_0 : S64x128.Transposes [1, 0] S128x64
  reducesTo_S64x64_S_d0_1 : S64x64.ReducesTo [0, 1] S_
  shapeCasts_S16384x1x128_S16384x128 : S16384x1x128.ShapeCasts S16384x128
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S16384x64 : S_.BroadcastsInDim S16384x64 (![] : Fin 0 → Fin S16384x64.rank)
  bcast_S8_S1x8_1 : S8.BroadcastsInDim S1x8 (![1] : Fin 1 → Fin S1x8.rank)
  bcast_S1x8_S16384x8_0_1 : S1x8.BroadcastsInDim S16384x8 (![0, 1] : Fin 2 → Fin S16384x8.rank)
  bcast_S_S16384x8 : S_.BroadcastsInDim S16384x8 (![] : Fin 0 → Fin S16384x8.rank)
  gather_S8x32_S16384x1_S16384x32_1_0_n_n_0_1_132_wf : GatherDims.WF S8x32 S16384x1 S16384x32 [1] [0] [] [0] [] 1 ![1, 32]
  dot_S16384x49_S49x128_S16384x128_1_0_0_1_n_n_wf : DotDims.WF S16384x49 S49x128 S16384x128 [1] [0] [0] [1] [] []
  dot_S16384x128_S128x128_S16384x128_1_0_0_1_n_n_wf : DotDims.WF S16384x128 S128x128 S16384x128 [1] [0] [0] [1] [] []
  dot_S16384x1x128_S64x128_S16384x1x64_2_1_01_0_n_n_wf : DotDims.WF S16384x1x128 S64x128 S16384x1x64 [2] [1] [0, 1] [0] [] []
  dot_S16384x1x64_S64x128_S16384x1x128_2_0_01_1_n_n_wf : DotDims.WF S16384x1x64 S64x128 S16384x1x128 [2] [0] [0, 1] [1] [] []
  dot_S64x128_S128x64_S64x64_1_0_0_1_n_n_wf : DotDims.WF S64x128 S128x64 S64x64 [1] [0] [0] [1] [] []
  dot_S16384x128_S128x64_S16384x64_1_0_0_1_n_n_wf : DotDims.WF S16384x128 S128x64 S16384x64 [1] [0] [0] [1] [] []
  dot_S16384x64_S64x8_S16384x8_1_0_0_1_n_n_wf : DotDims.WF S16384x64 S64x8 S16384x8 [1] [0] [0] [1] [] []

variable [Facts]

def gather_S8x32_S16384x1_S16384x32_1_0_n_n_0_1_132 : GatherDims S8x32 S16384x1 S16384x32 where
  offsetDims := [1]
  collapsedSliceDims := [0]
  operandBatchingDims := []
  startIndicesBatchingDims := []
  startIndexMap := [0]
  indexVectorDim := 1
  sliceSizes := ![1, 32]
  wf := gather_S8x32_S16384x1_S16384x32_1_0_n_n_0_1_132_wf
def dot_S16384x49_S49x128_S16384x128_1_0_0_1_n_n : DotDims S16384x49 S49x128 S16384x128 where
  lhsContracting := [1]
  rhsContracting := [0]
  lhsNonContracting := [0]
  rhsNonContracting := [1]
  lhsBatch := []
  rhsBatch := []
  wf := dot_S16384x49_S49x128_S16384x128_1_0_0_1_n_n_wf
def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def dot_S16384x1x128_S64x128_S16384x1x64_2_1_01_0_n_n : DotDims S16384x1x128 S64x128 S16384x1x64 where
  lhsContracting := [2]
  rhsContracting := [1]
  lhsNonContracting := [0, 1]
  rhsNonContracting := [0]
  lhsBatch := []
  rhsBatch := []
  wf := dot_S16384x1x128_S64x128_S16384x1x64_2_1_01_0_n_n_wf
def dot_S16384x1x64_S64x128_S16384x1x128_2_0_01_1_n_n : DotDims S16384x1x64 S64x128 S16384x1x128 where
  lhsContracting := [2]
  rhsContracting := [0]
  lhsNonContracting := [0, 1]
  rhsNonContracting := [1]
  lhsBatch := []
  rhsBatch := []
  wf := dot_S16384x1x64_S64x128_S16384x1x128_2_0_01_1_n_n_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf
def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf
def dot_S16384x64_S64x8_S16384x8_1_0_0_1_n_n : DotDims S16384x64 S64x8 S16384x8 where
  lhsContracting := [1]
  rhsContracting := [0]
  lhsNonContracting := [0]
  rhsNonContracting := [1]
  lhsBatch := []
  rhsBatch := []
  wf := dot_S16384x64_S64x8_S16384x8_1_0_0_1_n_n_wf
def fn_where {F : FTy → Type} [FloatOps F] (arg0 : IVec S16384 1) (arg1 : IVec S16384 32) (arg2 : IVec S16384 32) : IVec S16384 32 :=
  let v0 : IVec S16384 32 := select arg0 arg1 arg2
  v0

def fn_take {F : FTy → Type} [FloatOps F] (arg0 : FVec F S8x32 .f32) (arg1 : IVec S16384 32) : FVec F S16384x32 .f32 :=
  let c : IVec S_ 32 := constantI S_ 32 0#32
  let v0 : IVec S16384 32 := broadcastInDim S16384 ![] bcast_S_S16384 c
  let v1 : IVec S16384 1 := cmpi .slt arg1 v0
  let c_0 : IVec S_ 32 := constantI S_ 32 8#32
  let v2 : IVec S16384 32 := broadcastInDim S16384 ![] bcast_S_S16384 c_0
  let v3 : IVec S16384 32 := addi arg1 v2
  let v4 : IVec S16384 32 := fn_where (F := F) v1 v3 arg1
  let v5 : IVec S16384x1 32 := broadcastInDim S16384x1 ![0] bcast_S16384_S16384x1_0 v4
  let c_1 : IVec S1 32 := constantI S1 32 7#32
  let c_2 : IVec S_ 32 := constantI S_ 32 0#32
  let v6 : IVec S16384x1 32 := broadcastInDim S16384x1 ![] bcast_S_S16384x1 c_2
  let v7 : IVec S16384x1 1 := cmpi .sge v5 v6
  let v8 : IVec S1x1 32 := broadcastInDim S1x1 ![1] bcast_S1_S1x1_1 c_1
  let v9 : IVec S16384x1 32 := broadcastInDim S16384x1 ![0, 1] bcast_S1x1_S16384x1_0_1 v8
  let v10 : IVec S16384x1 1 := cmpi .sle v5 v9
  let v11 : IVec S16384x1 1 := andi v7 v10
  let c_3 : IVec S_ 1 := constantI S_ 1 1#1
  let v12 : IVec S16384 1 := (fun x v => Host.reduce IntOp.andi x v reducesTo_S16384x1_S16384_d1 h_S_) v11 c_3
  let v13 : FVec F S16384x32 .f32 := (fun x i => Host.gather gather_S8x32_S16384x1_S16384x32_1_0_n_n_0_1_132 x i) arg0 v5
  let v14 : IVec S16384x32 1 := broadcastInDim S16384x32 ![0] bcast_S16384_S16384x32_0 v12
  let cst : FVec F S_ .f32 := constant S_ .f32 0x7FC00000#32
  let v15 : FVec F S16384x32 .f32 := broadcastInDim S16384x32 ![] bcast_S_S16384x32 cst
  let v16 : FVec F S16384x32 .f32 := select v14 v13 v15
  v16

def fn_norm {F : FTy → Type} [FloatOps F] (arg0 : FVec F S64x128 .f32) : FVec F S64x1 .f32 :=
  let v0 : FVec F S64x128 .f32 := mulf arg0 arg0
  let cst : FVec F S_ .f32 := constant S_ .f32 0x00000000#32
  let v1 : FVec F S64 .f32 := (fun x v => Host.reduceAdd x v reducesTo_S64x128_S64_d1 h_S_) v0 cst
  let v2 : FVec F S64x1 .f32 := broadcastInDim S64x1 ![0] bcast_S64_S64x1_0 v1
  let v3 : FVec F S64x1 .f32 := Host.sqrt v2
  v3

def fn_relu {F : FTy → Type} [FloatOps F] (arg0 : FVec F S16384x64 .f32) : FVec F S16384x64 .f32 :=
  let cst : FVec F S_ .f32 := constant S_ .f32 0x00000000#32
  let v0 : FVec F S16384x64 .f32 := broadcastInDim S16384x64 ![] bcast_S_S16384x64 cst
  let v1 : FVec F S16384x64 .f32 := maximumf arg0 v0
  v1

def fn_part11 {F : FTy → Type} [FloatOps F] (main_arg15 : FVec F S64x8 .f32) (main_arg16 : FVec F S8 .f32) (main_arg18 : FVec F S_ .f32) (main_v192 : FVec F S_ .f32) (main_v194 : FVec F S16384x64 .f32) (main_v196 : FVec F S16384x64 .f32) : IVec S_ 1 :=
  let main_v197 : FVec F S16384x64 .f32 := addf main_v194 main_v196
  let main_v198 : FVec F S16384x64 .f32 := fn_relu (F := F) main_v197
  let main_v199 : FVec F S16384x8 .f32 := (fun l r => Host.dotGeneral dot_S16384x64_S64x8_S16384x8_1_0_0_1_n_n none l r) main_v198 main_arg15
  let main_v200 : FVec F S1x8 .f32 := broadcastInDim S1x8 ![1] bcast_S8_S1x8_1 main_arg16
  let main_v201 : FVec F S16384x8 .f32 := broadcastInDim S16384x8 ![0, 1] bcast_S1x8_S16384x8_0_1 main_v200
  let main_v202 : FVec F S16384x8 .f32 := addf main_v199 main_v201
  let main_v203 : FVec F S16384x8 .f32 := Host.negf main_v202
  let main_v204 : FVec F S16384x8 .f32 := Host.exp main_v203
  let main_cst_65 : FVec F S_ .f32 := constant S_ .f32 0x3F800000#32
  let main_v205 : FVec F S16384x8 .f32 := broadcastInDim S16384x8 ![] bcast_S_S16384x8 main_cst_65
  let main_v206 : FVec F S16384x8 .f32 := addf main_v205 main_v204
  let main_cst_66 : FVec F S_ .f32 := constant S_ .f32 0x3F800000#32
  let main_v207 : FVec F S16384x8 .f32 := broadcastInDim S16384x8 ![] bcast_S_S16384x8 main_cst_66
  let main_v208 : FVec F S16384x8 .f32 := Host.divf main_v207 main_v206
  let main_v209 : FVec F S_ .f32 := subf main_arg18 main_v192
  let main_v210 : FVec F S_ .f32 := Host.absf main_v209
  let main_cst_67 : FVec F S_ .f32 := constant S_ .f32 0x3032ABAF#32
  let main_v211 : IVec S_ 1 := cmpf .ole main_v210 main_cst_67
  main_v211

def fn_part10 {F : FTy → Type} [FloatOps F] (main_arg13 : FVec F S128x64 .f32) (main_arg14 : FVec F S64 .f32) (main_arg15 : FVec F S64x8 .f32) (main_arg16 : FVec F S8 .f32) (main_arg18 : FVec F S_ .f32) (main_v145 : FVec F S_ .f32) (main_v146 : FVec F S64x128 .f32) (main_v160 : FVec F S16384x1x128 .f32) (main_v167 : FVec F S_ .f32) (main_v175 : FVec F S_ .f32) (main_v178 : FVec F S64x1 .f32) : IVec S_ 1 :=
  let main_v179 : FVec F S64x128 .f32 := broadcastInDim S64x128 ![0, 1] bcast_S64x1_S64x128_0_1 main_v178
  let main_v180 : FVec F S64x128 .f32 := Host.divf main_v146 main_v179
  let main_v181 : FVec F S128x64 .f32 := (transpose S128x64 [1, 0] · transposes_S64x128_S128x64_1_0) main_v180
  let main_v182 : FVec F S64x64 .f32 := (fun l r => Host.dotGeneral dot_S64x128_S128x64_S64x64_1_0_0_1_n_n none l r) main_v180 main_v181
  let main_v183 : FVec F S64x64 .f32 := Host.absf main_v182
  let main_cst_59 : FVec F S_ .f32 := constant S_ .f32 0x00000000#32
  let main_v184 : FVec F S_ .f32 := (fun x v => Host.reduceAdd x v reducesTo_S64x64_S_d0_1 h_S_) main_v183 main_cst_59
  let main_cst_60 : FVec F S_ .f32 := constant S_ .f32 0x42800000#32
  let main_v185 : FVec F S_ .f32 := subf main_v184 main_cst_60
  let main_cst_61 : FVec F S_ .f32 := constant S_ .f32 0x457C0000#32
  let main_v186 : FVec F S_ .f32 := Host.divf main_v185 main_cst_61
  let main_cst_62 : FVec F S_ .f32 := constant S_ .f32 0x3C23D70A#32
  let main_v187 : FVec F S_ .f32 := mulf main_cst_62 main_v167
  let main_cst_63 : FVec F S_ .f32 := constant S_ .f32 0x3BA3D70A#32
  let main_v188 : FVec F S_ .f32 := mulf main_cst_63 main_v175
  let main_v189 : FVec F S_ .f32 := addf main_v187 main_v188
  let main_cst_64 : FVec F S_ .f32 := constant S_ .f32 0x3C23D70A#32
  let main_v190 : FVec F S_ .f32 := mulf main_cst_64 main_v186
  let main_v191 : FVec F S_ .f32 := addf main_v189 main_v190
  let main_v192 : FVec F S_ .f32 := addf main_v145 main_v191
  let main_v193 : FVec F S16384x128 .f32 := shapeCast S16384x128 main_v160 shapeCasts_S16384x1x128_S16384x128
  let main_v194 : FVec F S16384x64 .f32 := (fun l r => Host.dotGeneral dot_S16384x128_S128x64_S16384x64_1_0_0_1_n_n none l r) main_v193 main_arg13
  let main_v195 : FVec F S1x64 .f32 := broadcastInDim S1x64 ![1] bcast_S64_S1x64_1 main_arg14
  let main_v196 : FVec F S16384x64 .f32 := broadcastInDim S16384x64 ![0, 1] bcast_S1x64_S16384x64_0_1 main_v195
  fn_part11 (F := F) main_arg15 main_arg16 main_arg18 main_v192 main_v194 main_v196

def fn_part9 {F : FTy → Type} [FloatOps F] (main_arg13 : FVec F S128x64 .f32) (main_arg14 : FVec F S64 .f32) (main_arg15 : FVec F S64x8 .f32) (main_arg16 : FVec F S8 .f32) (main_arg18 : FVec F S_ .f32) (main_v145 : FVec F S_ .f32) (main_v146 : FVec F S64x128 .f32) (main_v158 : FVec F S16384x1x64 .f32) (main_v160 : FVec F S16384x1x128 .f32) (main_v161 : FVec F S64x128 .f32) (main_v162 : FVec F S64x128 .f32) : IVec S_ 1 :=
  let main_cst_51 : FVec F S_ .f32 := constant S_ .f32 0x3F800000#32
  let main_v163 : FVec F S64x128 .f32 := broadcastInDim S64x128 ![] bcast_S_S64x128 main_cst_51
  let main_v164 : FVec F S64x128 .f32 := subf main_v163 main_v162
  let main_v165 : FVec F S64x128 .f32 := mulf main_v161 main_v164
  let main_cst_52 : FVec F S_ .f32 := constant S_ .f32 0x00000000#32
  let main_v166 : FVec F S_ .f32 := (fun x v => Host.reduceAdd x v reducesTo_S64x128_S_d0_1 h_S_) main_v165 main_cst_52
  let main_cst_53 : FVec F S_ .f32 := constant S_ .f32 0x46000000#32
  let main_v167 : FVec F S_ .f32 := Host.divf main_v166 main_cst_53
  let main_cst_54 : FVec F S_ .f32 := constant S_ .f32 0x3089705F#32
  let main_v168 : FVec F S16384x1x64 .f32 := broadcastInDim S16384x1x64 ![] bcast_S_S16384x1x64 main_cst_54
  let main_v169 : FVec F S16384x1x64 .f32 := addf main_v158 main_v168
  let main_v170 : FVec F S16384x1x64 .f32 := Host.log main_v169
  let main_v171 : FVec F S16384x1x64 .f32 := mulf main_v158 main_v170
  let main_cst_55 : FVec F S_ .f32 := constant S_ .f32 0x00000000#32
  let main_v172 : FVec F S16384x1 .f32 := (fun x v => Host.reduceAdd x v reducesTo_S16384x1x64_S16384x1_d2 h_S_) main_v171 main_cst_55
  let main_cst_56 : FVec F S_ .f32 := constant S_ .f32 0x00000000#32
  let main_v173 : FVec F S_ .f32 := (fun x v => Host.reduceAdd x v reducesTo_S16384x1_S_d0_1 h_S_) main_v172 main_cst_56
  let main_cst_57 : FVec F S_ .f32 := constant S_ .f32 0x46800000#32
  let main_v174 : FVec F S_ .f32 := Host.divf main_v173 main_cst_57
  let main_v175 : FVec F S_ .f32 := Host.negf main_v174
  let main_v176 : FVec F S64x1 .f32 := fn_norm (F := F) main_v146
  let main_cst_58 : FVec F S_ .f32 := constant S_ .f32 0x3089705F#32
  let main_v177 : FVec F S64x1 .f32 := broadcastInDim S64x1 ![] bcast_S_S64x1 main_cst_58
  let main_v178 : FVec F S64x1 .f32 := addf main_v176 main_v177
  fn_part10 (F := F) main_arg13 main_arg14 main_arg15 main_arg16 main_arg18 main_v145 main_v146 main_v160 main_v167 main_v175 main_v178

def fn_part8 {F : FTy → Type} [FloatOps F] (main_arg11 : FVec F S64x128 .f32) (main_arg12 : FVec F S64x128 .f32) (main_arg13 : FVec F S128x64 .f32) (main_arg14 : FVec F S64 .f32) (main_arg15 : FVec F S64x8 .f32) (main_arg16 : FVec F S8 .f32) (main_arg18 : FVec F S_ .f32) (main_v113 : FVec F S16384x1x128 .f32) (main_v139 : FVec F S_ .f32) (main_v142 : FVec F S_ .f32) (main_cst_46 : FVec F S_ .f32) : IVec S_ 1 :=
  let main_v143 : FVec F S_ .f32 := mulf main_cst_46 main_v139
  let main_v144 : FVec F S_ .f32 := addf main_v142 main_v143
  let main_cst_47 : FVec F S_ .f32 := constant S_ .f32 0x00000000#32
  let main_v145 : FVec F S_ .f32 := addf main_cst_47 main_v144
  let main_v146 : FVec F S64x128 .f32 := Host.tanh main_arg11
  let main_v147 : FVec F S16384x1x64 .f32 := (fun l r => Host.dotGeneral dot_S16384x1x128_S64x128_S16384x1x64_2_1_01_0_n_n none l r) main_v113 main_v146
  let main_cst_48 : FVec F S_ .f32 := constant S_ .f32 0xFF800000#32
  let main_v148 : FVec F S16384x1 .f32 := (fun x v => Host.reduce FloatOps.maximumf x v reducesTo_S16384x1x64_S16384x1_d2 h_S_) main_v147 main_cst_48
  let main_cst_49 : FVec F S_ .f32 := constant S_ .f32 0xFF800000#32
  let main_v149 : FVec F S16384x1 .f32 := broadcastInDim S16384x1 ![] bcast_S_S16384x1 main_cst_49
  let main_v150 : FVec F S16384x1 .f32 := maximumf main_v149 main_v148
  let main_v151 : FVec F S16384x1x1 .f32 := broadcastInDim S16384x1x1 ![0, 1] bcast_S16384x1_S16384x1x1_0_1 main_v150
  let main_v152 : FVec F S16384x1x64 .f32 := broadcastInDim S16384x1x64 ![0, 1, 2] bcast_S16384x1x1_S16384x1x64_0_1_2 main_v151
  let main_v153 : FVec F S16384x1x64 .f32 := subf main_v147 main_v152
  let main_v154 : FVec F S16384x1x64 .f32 := Host.exp main_v153
  let main_cst_50 : FVec F S_ .f32 := constant S_ .f32 0x00000000#32
  let main_v155 : FVec F S16384x1 .f32 := (fun x v => Host.reduceAdd x v reducesTo_S16384x1x64_S16384x1_d2 h_S_) main_v154 main_cst_50
  let main_v156 : FVec F S16384x1x1 .f32 := broadcastInDim S16384x1x1 ![0, 1] bcast_S16384x1_S16384x1x1_0_1 main_v155
  let main_v157 : FVec F S16384x1x64 .f32 := broadcastInDim S16384x1x64 ![0, 1, 2] bcast_S16384x1x1_S16384x1x64_0_1_2 main_v156
  let main_v158 : FVec F S16384x1x64 .f32 := Host.divf main_v154 main_v157
  let main_v159 : FVec F S16384x1x128 .f32 := (fun l r => Host.dotGeneral dot_S16384x1x64_S64x128_S16384x1x128_2_0_01_1_n_n none l r) main_v158 main_arg12
  let main_v160 : FVec F S16384x1x128 .f32 := addf main_v113 main_v159
  let main_v161 : FVec F S64x128 .f32 := Host.absf main_v146
  let main_v162 : FVec F S64x128 .f32 := Host.absf main_v146
  fn_part9 (F := F) main_arg13 main_arg14 main_arg15 main_arg16 main_arg18 main_v145 main_v146 main_v158 main_v160 main_v161 main_v162

def fn_part7 {F : FTy → Type} [FloatOps F] (main_arg11 : FVec F S64x128 .f32) (main_arg12 : FVec F S64x128 .f32) (main_arg13 : FVec F S128x64 .f32) (main_arg14 : FVec F S64 .f32) (main_arg15 : FVec F S64x8 .f32) (main_arg16 : FVec F S8 .f32) (main_arg18 : FVec F S_ .f32) (main_v99 : FVec F S64x128 .f32) (main_v113 : FVec F S16384x1x128 .f32) (main_v120 : FVec F S_ .f32) (main_v126 : FVec F S_ .f32) : IVec S_ 1 :=
  let main_cst_39 : FVec F S_ .f32 := constant S_ .f32 0x46800000#32
  let main_v127 : FVec F S_ .f32 := Host.divf main_v126 main_cst_39
  let main_v128 : FVec F S_ .f32 := Host.negf main_v127
  let main_v129 : FVec F S64x1 .f32 := fn_norm (F := F) main_v99
  let main_cst_40 : FVec F S_ .f32 := constant S_ .f32 0x3089705F#32
  let main_v130 : FVec F S64x1 .f32 := broadcastInDim S64x1 ![] bcast_S_S64x1 main_cst_40
  let main_v131 : FVec F S64x1 .f32 := addf main_v129 main_v130
  let main_v132 : FVec F S64x128 .f32 := broadcastInDim S64x128 ![0, 1] bcast_S64x1_S64x128_0_1 main_v131
  let main_v133 : FVec F S64x128 .f32 := Host.divf main_v99 main_v132
  let main_v134 : FVec F S128x64 .f32 := (transpose S128x64 [1, 0] · transposes_S64x128_S128x64_1_0) main_v133
  let main_v135 : FVec F S64x64 .f32 := (fun l r => Host.dotGeneral dot_S64x128_S128x64_S64x64_1_0_0_1_n_n none l r) main_v133 main_v134
  let main_v136 : FVec F S64x64 .f32 := Host.absf main_v135
  let main_cst_41 : FVec F S_ .f32 := constant S_ .f32 0x00000000#32
  let main_v137 : FVec F S_ .f32 := (fun x v => Host.reduceAdd x v reducesTo_S64x64_S_d0_1 h_S_) main_v136 main_cst_41
  let main_cst_42 : FVec F S_ .f32 := constant S_ .f32 0x42800000#32
  let main_v138 : FVec F S_ .f32 := subf main_v137 main_cst_42
  let main_cst_43 : FVec F S_ .f32 := constant S_ .f32 0x457C0000#32
  let main_v139 : FVec F S_ .f32 := Host.divf main_v138 main_cst_43
  let main_cst_44 : FVec F S_ .f32 := constant S_ .f32 0x3C23D70A#32
  let main_v140 : FVec F S_ .f32 := mulf main_cst_44 main_v120
  let main_cst_45 : FVec F S_ .f32 := constant S_ .f32 0x3BA3D70A#32
  let main_v141 : FVec F S_ .f32 := mulf main_cst_45 main_v128
  let main_v142 : FVec F S_ .f32 := addf main_v140 main_v141
  let main_cst_46 : FVec F S_ .f32 := constant S_ .f32 0x3C23D70A#32
  fn_part8 (F := F) main_arg11 main_arg12 main_arg13 main_arg14 main_arg15 main_arg16 main_arg18 main_v113 main_v139 main_v142 main_cst_46

def fn_part6 {F : FTy → Type} [FloatOps F] (main_arg10 : FVec F S64x128 .f32) (main_arg11 : FVec F S64x128 .f32) (main_arg12 : FVec F S64x128 .f32) (main_arg13 : FVec F S128x64 .f32) (main_arg14 : FVec F S64 .f32) (main_arg15 : FVec F S64x8 .f32) (main_arg16 : FVec F S8 .f32) (main_arg18 : FVec F S_ .f32) (main_v98 : FVec F S16384x1x128 .f32) (main_v99 : FVec F S64x128 .f32) (main_v107 : FVec F S16384x1x64 .f32) (main_v108 : FVec F S16384x1 .f32) : IVec S_ 1 :=
  let main_v109 : FVec F S16384x1x1 .f32 := broadcastInDim S16384x1x1 ![0, 1] bcast_S16384x1_S16384x1x1_0_1 main_v108
  let main_v110 : FVec F S16384x1x64 .f32 := broadcastInDim S16384x1x64 ![0, 1, 2] bcast_S16384x1x1_S16384x1x64_0_1_2 main_v109
  let main_v111 : FVec F S16384x1x64 .f32 := Host.divf main_v107 main_v110
  let main_v112 : FVec F S16384x1x128 .f32 := (fun l r => Host.dotGeneral dot_S16384x1x64_S64x128_S16384x1x128_2_0_01_1_n_n none l r) main_v111 main_arg10
  let main_v113 : FVec F S16384x1x128 .f32 := addf main_v98 main_v112
  let main_v114 : FVec F S64x128 .f32 := Host.absf main_v99
  let main_v115 : FVec F S64x128 .f32 := Host.absf main_v99
  let main_cst_33 : FVec F S_ .f32 := constant S_ .f32 0x3F800000#32
  let main_v116 : FVec F S64x128 .f32 := broadcastInDim S64x128 ![] bcast_S_S64x128 main_cst_33
  let main_v117 : FVec F S64x128 .f32 := subf main_v116 main_v115
  let main_v118 : FVec F S64x128 .f32 := mulf main_v114 main_v117
  let main_cst_34 : FVec F S_ .f32 := constant S_ .f32 0x00000000#32
  let main_v119 : FVec F S_ .f32 := (fun x v => Host.reduceAdd x v reducesTo_S64x128_S_d0_1 h_S_) main_v118 main_cst_34
  let main_cst_35 : FVec F S_ .f32 := constant S_ .f32 0x46000000#32
  let main_v120 : FVec F S_ .f32 := Host.divf main_v119 main_cst_35
  let main_cst_36 : FVec F S_ .f32 := constant S_ .f32 0x3089705F#32
  let main_v121 : FVec F S16384x1x64 .f32 := broadcastInDim S16384x1x64 ![] bcast_S_S16384x1x64 main_cst_36
  let main_v122 : FVec F S16384x1x64 .f32 := addf main_v111 main_v121
  let main_v123 : FVec F S16384x1x64 .f32 := Host.log main_v122
  let main_v124 : FVec F S16384x1x64 .f32 := mulf main_v111 main_v123
  let main_cst_37 : FVec F S_ .f32 := constant S_ .f32 0x00000000#32
  let main_v125 : FVec F S16384x1 .f32 := (fun x v => Host.reduceAdd x v reducesTo_S16384x1x64_S16384x1_d2 h_S_) main_v124 main_cst_37
  let main_cst_38 : FVec F S_ .f32 := constant S_ .f32 0x00000000#32
  let main_v126 : FVec F S_ .f32 := (fun x v => Host.reduceAdd x v reducesTo_S16384x1_S_d0_1 h_S_) main_v125 main_cst_38
  fn_part7 (F := F) main_arg11 main_arg12 main_arg13 main_arg14 main_arg15 main_arg16 main_arg18 main_v99 main_v113 main_v120 main_v126

def fn_part5 {F : FTy → Type} [FloatOps F] (main_arg5 : FVec F S49x128 .f32) (main_arg6 : FVec F S128 .f32) (main_arg7 : FVec F S128x128 .f32) (main_arg8 : FVec F S128 .f32) (main_arg9 : FVec F S64x128 .f32) (main_arg10 : FVec F S64x128 .f32) (main_arg11 : FVec F S64x128 .f32) (main_arg12 : FVec F S64x128 .f32) (main_arg13 : FVec F S128x64 .f32) (main_arg14 : FVec F S64 .f32) (main_arg15 : FVec F S64x8 .f32) (main_arg16 : FVec F S8 .f32) (main_arg18 : FVec F S_ .f32) (main_v87 : FVec F S16384x49 .f32) : IVec S_ 1 :=
  let main_v88 : FVec F S16384x128 .f32 := (fun l r => Host.dotGeneral dot_S16384x49_S49x128_S16384x128_1_0_0_1_n_n none l r) main_v87 main_arg5
  let main_v89 : FVec F S1x128 .f32 := broadcastInDim S1x128 ![1] bcast_S128_S1x128_1 main_arg6
  let main_v90 : FVec F S16384x128 .f32 := broadcastInDim S16384x128 ![0, 1] bcast_S1x128_S16384x128_0_1 main_v89
  let main_v91 : FVec F S16384x128 .f32 := addf main_v88 main_v90
  let main_v92 : FVec F S16384x128 .f32 := Host.tanh main_v91
  let main_v93 : FVec F S16384x128 .f32 := (fun l r => Host.dotGeneral dot_S16384x128_S128x128_S16384x128_1_0_0_1_n_n none l r) main_v92 main_arg7
  let main_v94 : FVec F S16384x128 .f32 := addf main_v91 main_v93
  let main_v95 : FVec F S1x128 .f32 := broadcastInDim S1x128 ![1] bcast_S128_S1x128_1 main_arg8
  let main_v96 : FVec F S16384x128 .f32 := broadcastInDim S16384x128 ![0, 1] bcast_S1x128_S16384x128_0_1 main_v95
  let main_v97 : FVec F S16384x128 .f32 := addf main_v94 main_v96
  let main_v98 : FVec F S16384x1x128 .f32 := broadcastInDim S16384x1x128 ![0, 2] bcast_S16384x128_S16384x1x128_0_2 main_v97
  let main_v99 : FVec F S64x128 .f32 := Host.tanh main_arg9
  let main_v100 : FVec F S16384x1x64 .f32 := (fun l r => Host.dotGeneral dot_S16384x1x128_S64x128_S16384x1x64_2_1_01_0_n_n none l r) main_v98 main_v99
  let main_cst : FVec F S_ .f32 := constant S_ .f32 0xFF800000#32
  let main_v101 : FVec F S16384x1 .f32 := (fun x v => Host.reduce FloatOps.maximumf x v reducesTo_S16384x1x64_S16384x1_d2 h_S_) main_v100 main_cst
  let main_cst_31 : FVec F S_ .f32 := constant S_ .f32 0xFF800000#32
  let main_v102 : FVec F S16384x1 .f32 := broadcastInDim S16384x1 ![] bcast_S_S16384x1 main_cst_31
  let main_v103 : FVec F S16384x1 .f32 := maximumf main_v102 main_v101
  let main_v104 : FVec F S16384x1x1 .f32 := broadcastInDim S16384x1x1 ![0, 1] bcast_S16384x1_S16384x1x1_0_1 main_v103
  let main_v105 : FVec F S16384x1x64 .f32 := broadcastInDim S16384x1x64 ![0, 1, 2] bcast_S16384x1x1_S16384x1x64_0_1_2 main_v104
  let main_v106 : FVec F S16384x1x64 .f32 := subf main_v100 main_v105
  let main_v107 : FVec F S16384x1x64 .f32 := Host.exp main_v106
  let main_cst_32 : FVec F S_ .f32 := constant S_ .f32 0x00000000#32
  let main_v108 : FVec F S16384x1 .f32 := (fun x v => Host.reduceAdd x v reducesTo_S16384x1x64_S16384x1_d2 h_S_) main_v107 main_cst_32
  fn_part6 (F := F) main_arg10 main_arg11 main_arg12 main_arg13 main_arg14 main_arg15 main_arg16 main_arg18 main_v98 main_v99 main_v107 main_v108

def fn_part4 {F : FTy → Type} [FloatOps F] (main_arg2 : IVec S16384 32) (main_arg3 : IVec S16384 32) (main_arg5 : FVec F S49x128 .f32) (main_arg6 : FVec F S128 .f32) (main_arg7 : FVec F S128x128 .f32) (main_arg8 : FVec F S128 .f32) (main_arg9 : FVec F S64x128 .f32) (main_arg10 : FVec F S64x128 .f32) (main_arg11 : FVec F S64x128 .f32) (main_arg12 : FVec F S64x128 .f32) (main_arg13 : FVec F S128x64 .f32) (main_arg14 : FVec F S64 .f32) (main_arg15 : FVec F S64x8 .f32) (main_arg16 : FVec F S8 .f32) (main_arg18 : FVec F S_ .f32) (main_v0 : FVec F S16384x32 .f32) (main_v42 : FVec F S16384x8 .f32) (main_v46 : IVec S16384 32) (main_v50 : IVec S16384 32) (main_v54 : IVec S16384 32) (main_v58 : IVec S16384 32) (main_v62 : IVec S16384 32) (main_v66 : IVec S16384 32) (main_c_27 : IVec S_ 32) : IVec S_ 1 :=
  let main_v67 : IVec S16384 32 := broadcastInDim S16384 ![] bcast_S_S16384 main_c_27
  let main_v68 : IVec S16384 32 := Host.shrsi main_arg2 main_v67
  let main_c_28 : IVec S_ 32 := constantI S_ 32 1#32
  let main_v69 : IVec S16384 32 := broadcastInDim S16384 ![] bcast_S_S16384 main_c_28
  let main_v70 : IVec S16384 32 := andi main_v68 main_v69
  let main_c_29 : IVec S_ 32 := constantI S_ 32 7#32
  let main_v71 : IVec S16384 32 := broadcastInDim S16384 ![] bcast_S_S16384 main_c_29
  let main_v72 : IVec S16384 32 := Host.shrsi main_arg2 main_v71
  let main_c_30 : IVec S_ 32 := constantI S_ 32 1#32
  let main_v73 : IVec S16384 32 := broadcastInDim S16384 ![] bcast_S_S16384 main_c_30
  let main_v74 : IVec S16384 32 := andi main_v72 main_v73
  let main_v75 : IVec S16384x1 32 := broadcastInDim S16384x1 ![0] bcast_S16384_S16384x1_0 main_v46
  let main_v76 : IVec S16384x1 32 := broadcastInDim S16384x1 ![0] bcast_S16384_S16384x1_0 main_v50
  let main_v77 : IVec S16384x1 32 := broadcastInDim S16384x1 ![0] bcast_S16384_S16384x1_0 main_v54
  let main_v78 : IVec S16384x1 32 := broadcastInDim S16384x1 ![0] bcast_S16384_S16384x1_0 main_v58
  let main_v79 : IVec S16384x1 32 := broadcastInDim S16384x1 ![0] bcast_S16384_S16384x1_0 main_v62
  let main_v80 : IVec S16384x1 32 := broadcastInDim S16384x1 ![0] bcast_S16384_S16384x1_0 main_v66
  let main_v81 : IVec S16384x1 32 := broadcastInDim S16384x1 ![0] bcast_S16384_S16384x1_0 main_v70
  let main_v82 : IVec S16384x1 32 := broadcastInDim S16384x1 ![0] bcast_S16384_S16384x1_0 main_v74
  let main_v83 : IVec S16384x8 32 := concatenate S16384x8 1 [⟨S16384x1, main_v75⟩, ⟨S16384x1, main_v76⟩, ⟨S16384x1, main_v77⟩, ⟨S16384x1, main_v78⟩, ⟨S16384x1, main_v79⟩, ⟨S16384x1, main_v80⟩, ⟨S16384x1, main_v81⟩, ⟨S16384x1, main_v82⟩] concatenates_S16384x1_S16384x1_S16384x1_S16384x1_S16384x1_S16384x1_S16384x1_S16384x1_S16384x8_d1
  let main_v84 : FVec F S16384x8 .f32 := sitofp .f32 main_v83
  let main_v85 : IVec S16384x1 32 := broadcastInDim S16384x1 ![0] bcast_S16384_S16384x1_0 main_arg3
  let main_v86 : FVec F S16384x1 .f32 := sitofp .f32 main_v85
  let main_v87 : FVec F S16384x49 .f32 := concatenate S16384x49 1 [⟨S16384x32, main_v0⟩, ⟨S16384x8, main_v42⟩, ⟨S16384x8, main_v84⟩, ⟨S16384x1, main_v86⟩] concatenates_S16384x32_S16384x8_S16384x8_S16384x1_S16384x49_d1
  fn_part5 (F := F) main_arg5 main_arg6 main_arg7 main_arg8 main_arg9 main_arg10 main_arg11 main_arg12 main_arg13 main_arg14 main_arg15 main_arg16 main_arg18 main_v87

def fn_part3 {F : FTy → Type} [FloatOps F] (main_arg2 : IVec S16384 32) (main_arg3 : IVec S16384 32) (main_arg5 : FVec F S49x128 .f32) (main_arg6 : FVec F S128 .f32) (main_arg7 : FVec F S128x128 .f32) (main_arg8 : FVec F S128 .f32) (main_arg9 : FVec F S64x128 .f32) (main_arg10 : FVec F S64x128 .f32) (main_arg11 : FVec F S64x128 .f32) (main_arg12 : FVec F S64x128 .f32) (main_arg13 : FVec F S128x64 .f32) (main_arg14 : FVec F S64 .f32) (main_arg15 : FVec F S64x8 .f32) (main_arg16 : FVec F S8 .f32) (main_arg18 : FVec F S_ .f32) (main_v0 : FVec F S16384x32 .f32) (main_v42 : FVec F S16384x8 .f32) (main_v46 : IVec S16384 32) (main_v50 : IVec S16384 32) (main_c_19 : IVec S_ 32) : IVec S_ 1 :=
  let main_v51 : IVec S16384 32 := broadcastInDim S16384 ![] bcast_S_S16384 main_c_19
  let main_v52 : IVec S16384 32 := Host.shrsi main_arg2 main_v51
  let main_c_20 : IVec S_ 32 := constantI S_ 32 1#32
  let main_v53 : IVec S16384 32 := broadcastInDim S16384 ![] bcast_S_S16384 main_c_20
  let main_v54 : IVec S16384 32 := andi main_v52 main_v53
  let main_c_21 : IVec S_ 32 := constantI S_ 32 3#32
  let main_v55 : IVec S16384 32 := broadcastInDim S16384 ![] bcast_S_S16384 main_c_21
  let main_v56 : IVec S16384 32 := Host.shrsi main_arg2 main_v55
  let main_c_22 : IVec S_ 32 := constantI S_ 32 1#32
  let main_v57 : IVec S16384 32 := broadcastInDim S16384 ![] bcast_S_S16384 main_c_22
  let main_v58 : IVec S16384 32 := andi main_v56 main_v57
  let main_c_23 : IVec S_ 32 := constantI S_ 32 4#32
  let main_v59 : IVec S16384 32 := broadcastInDim S16384 ![] bcast_S_S16384 main_c_23
  let main_v60 : IVec S16384 32 := Host.shrsi main_arg2 main_v59
  let main_c_24 : IVec S_ 32 := constantI S_ 32 1#32
  let main_v61 : IVec S16384 32 := broadcastInDim S16384 ![] bcast_S_S16384 main_c_24
  let main_v62 : IVec S16384 32 := andi main_v60 main_v61
  let main_c_25 : IVec S_ 32 := constantI S_ 32 5#32
  let main_v63 : IVec S16384 32 := broadcastInDim S16384 ![] bcast_S_S16384 main_c_25
  let main_v64 : IVec S16384 32 := Host.shrsi main_arg2 main_v63
  let main_c_26 : IVec S_ 32 := constantI S_ 32 1#32
  let main_v65 : IVec S16384 32 := broadcastInDim S16384 ![] bcast_S_S16384 main_c_26
  let main_v66 : IVec S16384 32 := andi main_v64 main_v65
  let main_c_27 : IVec S_ 32 := constantI S_ 32 6#32
  fn_part4 (F := F) main_arg2 main_arg3 main_arg5 main_arg6 main_arg7 main_arg8 main_arg9 main_arg10 main_arg11 main_arg12 main_arg13 main_arg14 main_arg15 main_arg16 main_arg18 main_v0 main_v42 main_v46 main_v50 main_v54 main_v58 main_v62 main_v66 main_c_27

def fn_part2 {F : FTy → Type} [FloatOps F] (main_arg2 : IVec S16384 32) (main_arg3 : IVec S16384 32) (main_arg5 : FVec F S49x128 .f32) (main_arg6 : FVec F S128 .f32) (main_arg7 : FVec F S128x128 .f32) (main_arg8 : FVec F S128 .f32) (main_arg9 : FVec F S64x128 .f32) (main_arg10 : FVec F S64x128 .f32) (main_arg11 : FVec F S64x128 .f32) (main_arg12 : FVec F S64x128 .f32) (main_arg13 : FVec F S128x64 .f32) (main_arg14 : FVec F S64 .f32) (main_arg15 : FVec F S64x8 .f32) (main_arg16 : FVec F S8 .f32) (main_arg18 : FVec F S_ .f32) (main_v0 : FVec F S16384x32 .f32) (main_v4 : IVec S16384 32) (main_v8 : IVec S16384 32) (main_v12 : IVec S16384 32) (main_v16 : IVec S16384 32) (main_v20 : IVec S16384 32) (main_v24 : IVec S16384 32) (main_v28 : IVec S16384 32) (main_v30 : IVec S16384 32) (main_v31 : IVec S16384 32) : IVec S_ 1 :=
  let main_v32 : IVec S16384 32 := andi main_v30 main_v31
  let main_v33 : IVec S16384x1 32 := broadcastInDim S16384x1 ![0] bcast_S16384_S16384x1_0 main_v4
  let main_v34 : IVec S16384x1 32 := broadcastInDim S16384x1 ![0] bcast_S16384_S16384x1_0 main_v8
  let main_v35 : IVec S16384x1 32 := broadcastInDim S16384x1 ![0] bcast_S16384_S16384x1_0 main_v12
  let main_v36 : IVec S16384x1 32 := broadcastInDim S16384x1 ![0] bcast_S16384_S16384x1_0 main_v16
  let main_v37 : IVec S16384x1 32 := broadcastInDim S16384x1 ![0] bcast_S16384_S16384x1_0 main_v20
  let main_v38 : IVec S16384x1 32 := broadcastInDim S16384x1 ![0] bcast_S16384_S16384x1_0 main_v24
  let main_v39 : IVec S16384x1 32 := broadcastInDim S16384x1 ![0] bcast_S16384_S16384x1_0 main_v28
  let main_v40 : IVec S16384x1 32 := broadcastInDim S16384x1 ![0] bcast_S16384_S16384x1_0 main_v32
  let main_v41 : IVec S16384x8 32 := concatenate S16384x8 1 [⟨S16384x1, main_v33⟩, ⟨S16384x1, main_v34⟩, ⟨S16384x1, main_v35⟩, ⟨S16384x1, main_v36⟩, ⟨S16384x1, main_v37⟩, ⟨S16384x1, main_v38⟩, ⟨S16384x1, main_v39⟩, ⟨S16384x1, main_v40⟩] concatenates_S16384x1_S16384x1_S16384x1_S16384x1_S16384x1_S16384x1_S16384x1_S16384x1_S16384x8_d1
  let main_v42 : FVec F S16384x8 .f32 := sitofp .f32 main_v41
  let main_c_15 : IVec S_ 32 := constantI S_ 32 0#32
  let main_v43 : IVec S16384 32 := broadcastInDim S16384 ![] bcast_S_S16384 main_c_15
  let main_v44 : IVec S16384 32 := Host.shrsi main_arg2 main_v43
  let main_c_16 : IVec S_ 32 := constantI S_ 32 1#32
  let main_v45 : IVec S16384 32 := broadcastInDim S16384 ![] bcast_S_S16384 main_c_16
  let main_v46 : IVec S16384 32 := andi main_v44 main_v45
  let main_c_17 : IVec S_ 32 := constantI S_ 32 1#32
  let main_v47 : IVec S16384 32 := broadcastInDim S16384 ![] bcast_S_S16384 main_c_17
  let main_v48 : IVec S16384 32 := Host.shrsi main_arg2 main_v47
  let main_c_18 : IVec S_ 32 := constantI S_ 32 1#32
  let main_v49 : IVec S16384 32 := broadcastInDim S16384 ![] bcast_S_S16384 main_c_18
  let main_v50 : IVec S16384 32 := andi main_v48 main_v49
  let main_c_19 : IVec S_ 32 := constantI S_ 32 2#32
  fn_part3 (F := F) main_arg2 main_arg3 main_arg5 main_arg6 main_arg7 main_arg8 main_arg9 main_arg10 main_arg11 main_arg12 main_arg13 main_arg14 main_arg15 main_arg16 main_arg18 main_v0 main_v42 main_v46 main_v50 main_c_19

def fn_part1 {F : FTy → Type} [FloatOps F] (main_arg1 : IVec S16384 32) (main_arg2 : IVec S16384 32) (main_arg3 : IVec S16384 32) (main_arg5 : FVec F S49x128 .f32) (main_arg6 : FVec F S128 .f32) (main_arg7 : FVec F S128x128 .f32) (main_arg8 : FVec F S128 .f32) (main_arg9 : FVec F S64x128 .f32) (main_arg10 : FVec F S64x128 .f32) (main_arg11 : FVec F S64x128 .f32) (main_arg12 : FVec F S64x128 .f32) (main_arg13 : FVec F S128x64 .f32) (main_arg14 : FVec F S64 .f32) (main_arg15 : FVec F S64x8 .f32) (main_arg16 : FVec F S8 .f32) (main_arg18 : FVec F S_ .f32) (main_v0 : FVec F S16384x32 .f32) (main_v4 : IVec S16384 32) (main_v8 : IVec S16384 32) (main_v12 : IVec S16384 32) (main_v14 : IVec S16384 32) (main_v15 : IVec S16384 32) : IVec S_ 1 :=
  let main_v16 : IVec S16384 32 := andi main_v14 main_v15
  let main_c_7 : IVec S_ 32 := constantI S_ 32 4#32
  let main_v17 : IVec S16384 32 := broadcastInDim S16384 ![] bcast_S_S16384 main_c_7
  let main_v18 : IVec S16384 32 := Host.shrsi main_arg1 main_v17
  let main_c_8 : IVec S_ 32 := constantI S_ 32 1#32
  let main_v19 : IVec S16384 32 := broadcastInDim S16384 ![] bcast_S_S16384 main_c_8
  let main_v20 : IVec S16384 32 := andi main_v18 main_v19
  let main_c_9 : IVec S_ 32 := constantI S_ 32 5#32
  let main_v21 : IVec S16384 32 := broadcastInDim S16384 ![] bcast_S_S16384 main_c_9
  let main_v22 : IVec S16384 32 := Host.shrsi main_arg1 main_v21
  let main_c_10 : IVec S_ 32 := constantI S_ 32 1#32
  let main_v23 : IVec S16384 32 := broadcastInDim S16384 ![] bcast_S_S16384 main_c_10
  let main_v24 : IVec S16384 32 := andi main_v22 main_v23
  let main_c_11 : IVec S_ 32 := constantI S_ 32 6#32
  let main_v25 : IVec S16384 32 := broadcastInDim S16384 ![] bcast_S_S16384 main_c_11
  let main_v26 : IVec S16384 32 := Host.shrsi main_arg1 main_v25
  let main_c_12 : IVec S_ 32 := constantI S_ 32 1#32
  let main_v27 : IVec S16384 32 := broadcastInDim S16384 ![] bcast_S_S16384 main_c_12
  let main_v28 : IVec S16384 32 := andi main_v26 main_v27
  let main_c_13 : IVec S_ 32 := constantI S_ 32 7#32
  let main_v29 : IVec S16384 32 := broadcastInDim S16384 ![] bcast_S_S16384 main_c_13
  let main_v30 : IVec S16384 32 := Host.shrsi main_arg1 main_v29
  let main_c_14 : IVec S_ 32 := constantI S_ 32 1#32
  let main_v31 : IVec S16384 32 := broadcastInDim S16384 ![] bcast_S_S16384 main_c_14
  fn_part2 (F := F) main_arg2 main_arg3 main_arg5 main_arg6 main_arg7 main_arg8 main_arg9 main_arg10 main_arg11 main_arg12 main_arg13 main_arg14 main_arg15 main_arg16 main_arg18 main_v0 main_v4 main_v8 main_v12 main_v16 main_v20 main_v24 main_v28 main_v30 main_v31

def fn {F : FTy → Type} [FloatOps F] (main_arg0 : IVec S16384 32) (main_arg1 : IVec S16384 32) (main_arg2 : IVec S16384 32) (main_arg3 : IVec S16384 32) (main_arg4 : FVec F S8x32 .f32) (main_arg5 : FVec F S49x128 .f32) (main_arg6 : FVec F S128 .f32) (main_arg7 : FVec F S128x128 .f32) (main_arg8 : FVec F S128 .f32) (main_arg9 : FVec F S64x128 .f32) (main_arg10 : FVec F S64x128 .f32) (main_arg11 : FVec F S64x128 .f32) (main_arg12 : FVec F S64x128 .f32) (main_arg13 : FVec F S128x64 .f32) (main_arg14 : FVec F S64 .f32) (main_arg15 : FVec F S64x8 .f32) (main_arg16 : FVec F S8 .f32) (main_arg17 : FVec F S16384x8 .f32) (main_arg18 : FVec F S_ .f32) : IVec S_ 1 :=
  let main_v0 : FVec F S16384x32 .f32 := fn_take (F := F) main_arg4 main_arg0
  let main_c : IVec S_ 32 := constantI S_ 32 0#32
  let main_v1 : IVec S16384 32 := broadcastInDim S16384 ![] bcast_S_S16384 main_c
  let main_v2 : IVec S16384 32 := Host.shrsi main_arg1 main_v1
  let main_c_0 : IVec S_ 32 := constantI S_ 32 1#32
  let main_v3 : IVec S16384 32 := broadcastInDim S16384 ![] bcast_S_S16384 main_c_0
  let main_v4 : IVec S16384 32 := andi main_v2 main_v3
  let main_c_1 : IVec S_ 32 := constantI S_ 32 1#32
  let main_v5 : IVec S16384 32 := broadcastInDim S16384 ![] bcast_S_S16384 main_c_1
  let main_v6 : IVec S16384 32 := Host.shrsi main_arg1 main_v5
  let main_c_2 : IVec S_ 32 := constantI S_ 32 1#32
  let main_v7 : IVec S16384 32 := broadcastInDim S16384 ![] bcast_S_S16384 main_c_2
  let main_v8 : IVec S16384 32 := andi main_v6 main_v7
  let main_c_3 : IVec S_ 32 := constantI S_ 32 2#32
  let main_v9 : IVec S16384 32 := broadcastInDim S16384 ![] bcast_S_S16384 main_c_3
  let main_v10 : IVec S16384 32 := Host.shrsi main_arg1 main_v9
  let main_c_4 : IVec S_ 32 := constantI S_ 32 1#32
  let main_v11 : IVec S16384 32 := broadcastInDim S16384 ![] bcast_S_S16384 main_c_4
  let main_v12 : IVec S16384 32 := andi main_v10 main_v11
  let main_c_5 : IVec S_ 32 := constantI S_ 32 3#32
  let main_v13 : IVec S16384 32 := broadcastInDim S16384 ![] bcast_S_S16384 main_c_5
  let main_v14 : IVec S16384 32 := Host.shrsi main_arg1 main_v13
  let main_c_6 : IVec S_ 32 := constantI S_ 32 1#32
  let main_v15 : IVec S16384 32 := broadcastInDim S16384 ![] bcast_S_S16384 main_c_6
  fn_part1 (F := F) main_arg1 main_arg2 main_arg3 main_arg5 main_arg6 main_arg7 main_arg8 main_arg9 main_arg10 main_arg11 main_arg12 main_arg13 main_arg14 main_arg15 main_arg16 main_arg18 main_v0 main_v4 main_v8 main_v12 main_v14 main_v15
-- ==== Pre_pre.lean ====
abbrev S16384 : Shape := ⟨1, ![16384]⟩
abbrev S8x32 : Shape := ⟨2, ![8, 32]⟩
abbrev S49x128 : Shape := ⟨2, ![49, 128]⟩
abbrev S128 : Shape := ⟨1, ![128]⟩
abbrev S128x128 : Shape := ⟨2, ![128, 128]⟩
abbrev S64x128 : Shape := ⟨2, ![64, 128]⟩
abbrev S128x64 : Shape := ⟨2, ![128, 64]⟩
abbrev S64 : Shape := ⟨1, ![64]⟩
abbrev S64x8 : Shape := ⟨2, ![64, 8]⟩
abbrev S8 : Shape := ⟨1, ![8]⟩
abbrev S_ : Shape := ⟨0, ![]⟩

class Facts : Prop where
  bcast_S_S16384 : S_.BroadcastsInDim S16384 (![] : Fin 0 → Fin S16384.rank)
  bcast_S_S128 : S_.BroadcastsInDim S128 (![] : Fin 0 → Fin S128.rank)
  bcast_S_S64 : S_.BroadcastsInDim S64 (![] : Fin 0 → Fin S64.rank)
  bcast_S_S8 : S_.BroadcastsInDim S8 (![] : Fin 0 → Fin S8.rank)
  bcast_S_S8x32 : S_.BroadcastsInDim S8x32 (![] : Fin 0 → Fin S8x32.rank)
  bcast_S_S49x128 : S_.BroadcastsInDim S49x128 (![] : Fin 0 → Fin S49x128.rank)
  bcast_S_S128x128 : S_.BroadcastsInDim S128x128 (![] : Fin 0 → Fin S128x128.rank)
  bcast_S_S64x128 : S_.BroadcastsInDim S64x128 (![] : Fin 0 → Fin S64x128.rank)

variable [Facts]

def fn_part2 {F : FTy → Type} [FloatOps F] (main_arg7 : FVec F S128x128 .f32) (main_arg10 : FVec F S64x128 .f32) (main_v4 : IVec S16384 1) (main_v9 : IVec S16384 1) (main_v14 : IVec S16384 1) (main_v19 : IVec S16384 1) (main_v21 : IVec S128 1) (main_v23 : IVec S128 1) (main_v25 : IVec S64 1) (main_v27 : IVec S8 1) (main_v30 : IVec S8x32 1) (main_v33 : IVec S49x128 1) : IVec S16384 1 × IVec S16384 1 × IVec S16384 1 × IVec S16384 1 × IVec S128 1 × IVec S128 1 × IVec S64 1 × IVec S8 1 × IVec S8x32 1 × IVec S49x128 1 × IVec S128x128 1 × IVec S64x128 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_v37 : FVec F S64x128 .f32 := Host.absf main_arg10
  let main_cst_13 : FVec F S_ .f32 := constant S_ .f32 0x7F800000#32
  let main_v38 : FVec F S64x128 .f32 := broadcastInDim S64x128 ![] bcast_S_S64x128 main_cst_13
  let main_v39 : IVec S64x128 1 := cmpf .olt main_v37 main_v38
  (main_v4, main_v9, main_v14, main_v19, main_v21, main_v23, main_v25, main_v27, main_v30, main_v33, main_v36, main_v39)

def fn_part1 {F : FTy → Type} [FloatOps F] (main_arg3 : IVec S16384 32) (main_arg4 : FVec F S8x32 .f32) (main_arg5 : FVec F S49x128 .f32) (main_arg6 : FVec F S128 .f32) (main_arg7 : FVec F S128x128 .f32) (main_arg8 : FVec F S128 .f32) (main_arg10 : FVec F S64x128 .f32) (main_arg14 : FVec F S64 .f32) (main_arg16 : FVec F S8 .f32) (main_v4 : IVec S16384 1) (main_v9 : IVec S16384 1) (main_v14 : IVec S16384 1) (main_v16 : IVec S16384 1) : IVec S16384 1 × IVec S16384 1 × IVec S16384 1 × IVec S16384 1 × IVec S128 1 × IVec S128 1 × IVec S64 1 × IVec S8 1 × IVec S8x32 1 × IVec S49x128 1 × IVec S128x128 1 × IVec S64x128 1 :=
  let main_c_6 : IVec S_ 32 := constantI S_ 32 2#32
  let main_v17 : IVec S16384 32 := broadcastInDim S16384 ![] bcast_S_S16384 main_c_6
  let main_v18 : IVec S16384 1 := cmpi .slt main_arg3 main_v17
  let main_v19 : IVec S16384 1 := andi main_v16 main_v18
  let main_cst : FVec F S_ .f32 := constant S_ .f32 0x00000000#32
  let main_v20 : FVec F S128 .f32 := broadcastInDim S128 ![] bcast_S_S128 main_cst
  let main_v21 : IVec S128 1 := cmpf .oeq main_arg6 main_v20
  let main_cst_7 : FVec F S_ .f32 := constant S_ .f32 0x00000000#32
  let main_v22 : FVec F S128 .f32 := broadcastInDim S128 ![] bcast_S_S128 main_cst_7
  let main_v23 : IVec S128 1 := cmpf .oeq main_arg8 main_v22
  let main_cst_8 : FVec F S_ .f32 := constant S_ .f32 0x00000000#32
  let main_v24 : FVec F S64 .f32 := broadcastInDim S64 ![] bcast_S_S64 main_cst_8
  let main_v25 : IVec S64 1 := cmpf .oeq main_arg14 main_v24
  let main_cst_9 : FVec F S_ .f32 := constant S_ .f32 0x00000000#32
  let main_v26 : FVec F S8 .f32 := broadcastInDim S8 ![] bcast_S_S8 main_cst_9
  let main_v27 : IVec S8 1 := cmpf .oeq main_arg16 main_v26
  let main_v28 : FVec F S8x32 .f32 := Host.absf main_arg4
  let main_cst_10 : FVec F S_ .f32 := constant S_ .f32 0x7F800000#32
  let main_v29 : FVec F S8x32 .f32 := broadcastInDim S8x32 ![] bcast_S_S8x32 main_cst_10
  let main_v30 : IVec S8x32 1 := cmpf .olt main_v28 main_v29
  let main_v31 : FVec F S49x128 .f32 := Host.absf main_arg5
  let main_cst_11 : FVec F S_ .f32 := constant S_ .f32 0x7F800000#32
  let main_v32 : FVec F S49x128 .f32 := broadcastInDim S49x128 ![] bcast_S_S49x128 main_cst_11
  let main_v33 : IVec S49x128 1 := cmpf .olt main_v31 main_v32
  fn_part2 (F := F) main_arg7 main_arg10 main_v4 main_v9 main_v14 main_v19 main_v21 main_v23 main_v25 main_v27 main_v30 main_v33

def fn {F : FTy → Type} [FloatOps F] (main_arg0 : IVec S16384 32) (main_arg1 : IVec S16384 32) (main_arg2 : IVec S16384 32) (main_arg3 : IVec S16384 32) (main_arg4 : FVec F S8x32 .f32) (main_arg5 : FVec F S49x128 .f32) (main_arg6 : FVec F S128 .f32) (main_arg7 : FVec F S128x128 .f32) (main_arg8 : FVec F S128 .f32) (main_arg9 : FVec F S64x128 .f32) (main_arg10 : FVec F S64x128 .f32) (main_arg11 : FVec F S64x128 .f32) (main_arg12 : FVec F S64x128 .f32) (main_arg13 : FVec F S128x64 .f32) (main_arg14 : FVec F S64 .f32) (main_arg15 : FVec F S64x8 .f32) (main_arg16 : FVec F S8 .f32) : IVec S16384 1 × IVec S16384 1 × IVec S16384 1 × IVec S16384 1 × IVec S128 1 × IVec S128 1 × IVec S64 1 × IVec S8 1 × IVec S8x32 1 × IVec S49x128 1 × IVec S128x128 1 × IVec S64x128 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 32 := constantI S_ 32 8#32
  let main_v2 : IVec S16384 32 := broadcastInDim S16384 ![] bcast_S_S16384 main_c_0
  let main_v3 : IVec S16384 1 := cmpi .slt main_arg0 main_v2
  let main_v4 : IVec S16384 1 := andi main_v1 main_v3
  let main_c_1 : IVec S_ 32 := constantI S_ 32 0#32
  let main_v5 : IVec S16384 32 := broadcastInDim S16384 ![] bcast_S_S16384 main_c_1
  let main_v6 : IVec S16384 1 := cmpi .sge main_arg1 main_v5
  let main_c_2 : IVec S_ 32 := constantI S_ 32 256#32
  let main_v7 : IVec S16384 32 := broadcastInDim S16384 ![] bcast_S_S16384 main_c_2
  let main_v8 : IVec S16384 1 := cmpi .slt main_arg1 main_v7
  let main_v9 : IVec S16384 1 := andi main_v6 main_v8
  let main_c_3 : IVec S_ 32 := constantI S_ 32 0#32
  let main_v10 : IVec S16384 32 := broadcastInDim S16384 ![] bcast_S_S16384 main_c_3
  let main_v11 : IVec S16384 1 := cmpi .sge main_arg2 main_v10
  let main_c_4 : IVec S_ 32 := constantI S_ 32 256#32
  let main_v12 : IVec S16384 32 := broadcastInDim S16384 ![] bcast_S_S16384 main_c_4
  let main_v13 : IVec S16384 1 := cmpi .slt main_arg2 main_v12
  let main_v14 : IVec S16384 1 := andi main_v11 main_v13
  let main_c_5 : IVec S_ 32 := constantI S_ 32 0#32
  let main_v15 : IVec S16384 32 := broadcastInDim S16384 ![] bcast_S_S16384 main_c_5
  let main_v16 : IVec S16384 1 := cmpi .sge main_arg3 main_v15
  fn_part1 (F := F) main_arg3 main_arg4 main_arg5 main_arg6 main_arg7 main_arg8 main_arg10 main_arg14 main_arg16 main_v4 main_v9 main_v14 main_v16
-- ==== Kernel.lean ====
abbrev S16384 : Shape := ⟨1, ![16384]⟩
abbrev S8x32 : Shape := ⟨2, ![8, 32]⟩
abbrev S49x128 : Shape := ⟨2, ![49, 128]⟩
abbrev S128 : Shape := ⟨1, ![128]⟩
abbrev S128x128 : Shape := ⟨2, ![128, 128]⟩
abbrev S64x128 : Shape := ⟨2, ![64, 128]⟩
abbrev S128x64 : Shape := ⟨2, ![128, 64]⟩
abbrev S64 : Shape := ⟨1, ![64]⟩
abbrev S64x8 : Shape := ⟨2, ![64, 8]⟩
abbrev S8 : Shape := ⟨1, ![8]⟩
abbrev S8x16384 : Shape := ⟨2, ![8, 16384]⟩
abbrev S1x1 : Shape := ⟨2, ![1, 1]⟩
abbrev S1x16384 : Shape := ⟨2, ![1, 16384]⟩
abbrev S32x16384 : Shape := ⟨2, ![32, 16384]⟩
abbrev S32x128 : Shape := ⟨2, ![32, 128]⟩
abbrev S8x128 : Shape := ⟨2, ![8, 128]⟩
abbrev S1x128 : Shape := ⟨2, ![1, 128]⟩
abbrev S7x128 : Shape := ⟨2, ![7, 128]⟩
abbrev S128x16384 : Shape := ⟨2, ![128, 16384]⟩
abbrev S64x16384 : Shape := ⟨2, ![64, 16384]⟩
abbrev S1x1x16384 : Shape := ⟨3, ![1, 1, 16384]⟩
abbrev S1 : Shape := ⟨1, ![1]⟩
abbrev S1x1x1 : Shape := ⟨3, ![1, 1, 1]⟩
abbrev S1x64x128 : Shape := ⟨3, ![1, 64, 128]⟩
abbrev S64x1 : Shape := ⟨2, ![64, 1]⟩
abbrev S64x64 : Shape := ⟨2, ![64, 64]⟩
abbrev S1x64x64 : Shape := ⟨3, ![1, 64, 64]⟩
abbrev S16384x8 : Shape := ⟨2, ![16384, 8]⟩
abbrev S_ : Shape := ⟨0, ![]⟩

abbrev nBuf : Space → Nat
  | .hbm => 21
  | .vmem => 15
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S16384, .i32⟩
  | .hbm, ⟨3, _⟩ => ⟨S16384, .i32⟩
  | .hbm, ⟨4, _⟩ => ⟨S8x32, .f32⟩
  | .hbm, ⟨5, _⟩ => ⟨S49x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S64x128, .f32⟩
  | .hbm, ⟨10, _⟩ => ⟨S64x128, .f32⟩
  | .hbm, ⟨11, _⟩ => ⟨S64x128, .f32⟩
  | .hbm, ⟨12, _⟩ => ⟨S64x128, .f32⟩
  | .hbm, ⟨13, _⟩ => ⟨S128x64, .f32⟩
  | .hbm, ⟨14, _⟩ => ⟨S64, .f32⟩
  | .hbm, ⟨15, _⟩ => ⟨S64x8, .f32⟩
  | .hbm, ⟨16, _⟩ => ⟨S8, .f32⟩
  | .hbm, ⟨17, _⟩ => ⟨S8x16384, .f32⟩
  | .hbm, ⟨18, _⟩ => ⟨S1x1, .f32⟩
  | .hbm, ⟨19, _⟩ => ⟨S16384x8, .f32⟩
  | .hbm, ⟨20, _⟩ => ⟨S_, .f32⟩
  | .local _ .vmem, ⟨0, _⟩ => ⟨S16384, .i32⟩
  | .local _ .vmem, ⟨1, _⟩ => ⟨S16384, .i32⟩
  | .local _ .vmem, ⟨2, _⟩ => ⟨S16384, .i32⟩
  | .local _ .vmem, ⟨3, _⟩ => ⟨S16384, .i32⟩
  | .local _ .vmem, ⟨4, _⟩ => ⟨S8x32, .f32⟩
  | .local _ .vmem, ⟨5, _⟩ => ⟨S49x128, .f32⟩
  | .local _ .vmem, ⟨6, _⟩ => ⟨S128x128, .f32⟩
  | .local _ .vmem, ⟨7, _⟩ => ⟨S64x128, .f32⟩
  | .local _ .vmem, ⟨8, _⟩ => ⟨S64x128, .f32⟩
  | .local _ .vmem, ⟨9, _⟩ => ⟨S64x128, .f32⟩
  | .local _ .vmem, ⟨10, _⟩ => ⟨S64x128, .f32⟩
  | .local _ .vmem, ⟨11, _⟩ => ⟨S128x64, .f32⟩
  | .local _ .vmem, ⟨12, _⟩ => ⟨S64x8, .f32⟩
  | .local _ .vmem, ⟨13, _⟩ => ⟨S8x16384, .f32⟩
  | .local _ .vmem, ⟨14, _⟩ => ⟨S1x1, .f32⟩
  | _, _ => ⟨S16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0_0 : Ref sig .tc := ⟨.hbm, 17, rfl⟩
abbrev main_v0_1 : Ref sig .tc := ⟨.hbm, 18, rfl⟩
abbrev main_v1 : Ref sig .tc := ⟨.hbm, 19, rfl⟩
abbrev main_v2 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := ⟨1, ![1], ![false]⟩

def k0_cond1 (i : grid0.Coords) : BitVec 1 :=
  let arg0 : BitVec 32 := BitVec.ofNat 32 (i 0).val
  let c0_i32 : BitVec 32 := 0#32
  let v100 : BitVec 1 := Scalar.cmpi .eq arg0 c0_i32
  let v101 : BitVec 32 := Scalar.extui v100
  let c0_i32_48 : BitVec 32 := 0#32
  let v102 : BitVec 1 := Scalar.cmpi .ne v101 c0_i32_48
  v102

def k0_cond2 (i : grid0.Coords) : BitVec 1 :=
  let arg0 : BitVec 32 := BitVec.ofNat 32 (i 0).val
  let c0_i32_49 : BitVec 32 := 0#32
  let v103 : BitVec 1 := Scalar.cmpi .ne arg0 c0_i32_49
  let v104 : BitVec 32 := Scalar.extui v103
  let c0_i32_50 : BitVec 32 := 0#32
  let v105 : BitVec 1 := Scalar.cmpi .ne v104 c0_i32_50
  v105

def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 1 → Nat :=
  let arg0 : BitVec 32 := BitVec.ofNat 32 (i 0).val
  let c0_i32 : BitVec 32 := 0#32
  ![arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16384 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16384 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16384 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16384 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S49x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64x8 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x16384 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S1x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ReferenceIdeal.lean ====
abbrev S16384 : Shape := ⟨1, ![16384]⟩
abbrev S8x32 : Shape := ⟨2, ![8, 32]⟩
abbrev S49x128 : Shape := ⟨2, ![49, 128]⟩
abbrev S128 : Shape := ⟨1, ![128]⟩
abbrev S128x128 : Shape := ⟨2, ![128, 128]⟩
abbrev S64x128 : Shape := ⟨2, ![64, 128]⟩
abbrev S128x64 : Shape := ⟨2, ![128, 64]⟩
abbrev S64 : Shape := ⟨1, ![64]⟩
abbrev S64x8 : Shape := ⟨2, ![64, 8]⟩
abbrev S8 : Shape := ⟨1, ![8]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x32 : Shape := ⟨2, ![16384, 32]⟩
abbrev S16384x8 : Shape := ⟨2, ![16384, 8]⟩
abbrev S16384x49 : Shape := ⟨2, ![16384, 49]⟩
abbrev S16384x128 : Shape := ⟨2, ![16384, 128]⟩
abbrev S1x128 : Shape := ⟨2, ![1, 128]⟩
abbrev S16384x1x128 : Shape := ⟨3, ![16384, 1, 128]⟩
abbrev S16384x1x64 : Shape := ⟨3, ![16384, 1, 64]⟩
abbrev S16384x1x1 : Shape := ⟨3, ![16384, 1, 1]⟩
abbrev S64x1 : Shape := ⟨2, ![64, 1]⟩
abbrev S64x64 : Shape := ⟨2, ![64, 64]⟩
abbrev S16384x64 : Shape := ⟨2, ![16384, 64]⟩
abbrev S1x64 : Shape := ⟨2, ![1, 64]⟩
abbrev S1x8 : Shape := ⟨2, ![1, 8]⟩

abbrev nBuf : Space → Nat
  | .hbm => 321
  | .vmem => 0
  | .smem => 0
  | _ => 0

abbrev hbmTy0_0 (i : Nat) : BufTy := match i % 128 with
  | 0 => ⟨S16384, .i32⟩
  | 1 => ⟨S16384, .i32⟩
  | 2 => ⟨S16384, .i32⟩
  | 3 => ⟨S16384, .i32⟩
  | 4 => ⟨S8x32, .f32⟩
  | 5 => ⟨S49x128, .f32⟩
  | 6 => ⟨S128, .f32⟩
  | 7 => ⟨S128x128, .f32⟩
  | 8 => ⟨S128, .f32⟩
  | 9 => ⟨S64x128, .f32⟩
  | 10 => ⟨S64x128, .f32⟩
  | 11 => ⟨S64x128, .f32⟩
  | 12 => ⟨S64x128, .f32⟩
  | 13 => ⟨S128x64, .f32⟩
  | 14 => ⟨S64, .f32⟩
  | 15 => ⟨S64x8, .f32⟩
  | 16 => ⟨S8, .f32⟩
  | 17 => ⟨S_, .i32⟩
  | 18 => ⟨S16384, .i32⟩
  | 19 => ⟨S16384, .i1⟩
  | 20 => ⟨S_, .i32⟩
  | 21 => ⟨S16384, .i32⟩
  | 22 => ⟨S16384, .i32⟩
  | 23 => ⟨S16384, .i32⟩
  | 24 => ⟨S16384x1, .i32⟩
  | 25 => ⟨S1, .i32⟩
  | 26 => ⟨S_, .i32⟩
  | 27 => ⟨S16384x1, .i32⟩
  | 28 => ⟨S16384x1, .i1⟩
  | 29 => ⟨S1x1, .i32⟩
  | 30 => ⟨S16384x1, .i32⟩
  | 31 => ⟨S16384x1, .i1⟩
  | 32 => ⟨S16384x1, .i1⟩
  | 33 => ⟨S_, .i1⟩
  | 34 => ⟨S16384, .i1⟩
  | 35 => ⟨S16384x32, .f32⟩
  | 36 => ⟨S16384x32, .i1⟩
  | 37 => ⟨S_, .f32⟩
  | 38 => ⟨S16384x32, .f32⟩
  | 39 => ⟨S16384x32, .f32⟩
  | 40 => ⟨S_, .i32⟩
  | 41 => ⟨S16384, .i32⟩
  | 42 => ⟨S16384, .i32⟩
  | 43 => ⟨S_, .i32⟩
  | 44 => ⟨S16384, .i32⟩
  | 45 => ⟨S16384, .i32⟩
  | 46 => ⟨S_, .i32⟩
  | 47 => ⟨S16384, .i32⟩
  | 48 => ⟨S16384, .i32⟩
  | 49 => ⟨S_, .i32⟩
  | 50 => ⟨S16384, .i32⟩
  | 51 => ⟨S16384, .i32⟩
  | 52 => ⟨S_, .i32⟩
  | 53 => ⟨S16384, .i32⟩
  | 54 => ⟨S16384, .i32⟩
  | 55 => ⟨S_, .i32⟩
  | 56 => ⟨S16384, .i32⟩
  | 57 => ⟨S16384, .i32⟩
  | 58 => ⟨S_, .i32⟩
  | 59 => ⟨S16384, .i32⟩
  | 60 => ⟨S16384, .i32⟩
  | 61 => ⟨S_, .i32⟩
  | 62 => ⟨S16384, .i32⟩
  | 63 => ⟨S16384, .i32⟩
  | 64 => ⟨S_, .i32⟩
  | 65 => ⟨S16384, .i32⟩
  | 66 => ⟨S16384, .i32⟩
  | 67 => ⟨S_, .i32⟩
  | 68 => ⟨S16384, .i32⟩
  | 69 => ⟨S16384, .i32⟩
  | 70 => ⟨S_, .i32⟩
  | 71 => ⟨S16384, .i32⟩
  | 72 => ⟨S16384, .i32⟩
  | 73 => ⟨S_, .i32⟩
  | 74 => ⟨S16384, .i32⟩
  | 75 => ⟨S16384, .i32⟩
  | 76 => ⟨S_, .i32⟩
  | 77 => ⟨S16384, .i32⟩
  | 78 => ⟨S16384, .i32⟩
  | 79 => ⟨S_, .i32⟩
  | 80 => ⟨S16384, .i32⟩
  | 81 => ⟨S16384, .i32⟩
  | 82 => ⟨S_, .i32⟩
  | 83 => ⟨S16384, .i32⟩
  | 84 => ⟨S16384, .i32⟩
  | 85 => ⟨S_, .i32⟩
  | 86 => ⟨S16384, .i32⟩
  | 87 => ⟨S16384, .i32⟩
  | 88 => ⟨S16384x1, .i32⟩
  | 89 => ⟨S16384x1, .i32⟩
  | 90 => ⟨S16384x1, .i32⟩
  | 91 => ⟨S16384x1, .i32⟩
  | 92 => ⟨S16384x1, .i32⟩
  | 93 => ⟨S16384x1, .i32⟩
  | 94 => ⟨S16384x1, .i32⟩
  | 95 => ⟨S16384x1, .i32⟩
  | 96 => ⟨S16384x8, .i32⟩
  | 97 => ⟨S16384x8, .f32⟩
  | 98 => ⟨S_, .i32⟩
  | 99 => ⟨S16384, .i32⟩
  | 100 => ⟨S16384, .i32⟩
  | 101 => ⟨S_, .i32⟩
  | 102 => ⟨S16384, .i32⟩
  | 103 => ⟨S16384, .i32⟩
  | 104 => ⟨S_, .i32⟩
  | 105 => ⟨S16384, .i32⟩
  | 106 => ⟨S16384, .i32⟩
  | 107 => ⟨S_, .i32⟩
  | 108 => ⟨S16384, .i32⟩
  | 109 => ⟨S16384, .i32⟩
  | 110 => ⟨S_, .i32⟩
  | 111 => ⟨S16384, .i32⟩
  | 112 => ⟨S16384, .i32⟩
  | 113 => ⟨S_, .i32⟩
  | 114 => ⟨S16384, .i32⟩
  | 115 => ⟨S16384, .i32⟩
  | 116 => ⟨S_, .i32⟩
  | 117 => ⟨S16384, .i32⟩
  | 118 => ⟨S16384, .i32⟩
  | 119 => ⟨S_, .i32⟩
  | 120 => ⟨S16384, .i32⟩
  | 121 => ⟨S16384, .i32⟩
  | 122 => ⟨S_, .i32⟩
  | 123 => ⟨S16384, .i32⟩
  | 124 => ⟨S16384, .i32⟩
  | 125 => ⟨S_, .i32⟩
  | 126 => ⟨S16384, .i32⟩
  | 127 => ⟨S16384, .i32⟩
  | _ => ⟨S16384, .i32⟩

abbrev hbmTy0_1 (i : Nat) : BufTy := match i % 128 with
  | 0 => ⟨S_, .i32⟩
  | 1 => ⟨S16384, .i32⟩
  | 2 => ⟨S16384, .i32⟩
  | 3 => ⟨S_, .i32⟩
  | 4 => ⟨S16384, .i32⟩
  | 5 => ⟨S16384, .i32⟩
  | 6 => ⟨S_, .i32⟩
  | 7 => ⟨S16384, .i32⟩
  | 8 => ⟨S16384, .i32⟩
  | 9 => ⟨S_, .i32⟩
  | 10 => ⟨S16384, .i32⟩
  | 11 => ⟨S16384, .i32⟩
  | 12 => ⟨S_, .i32⟩
  | 13 => ⟨S16384, .i32⟩
  | 14 => ⟨S16384, .i32⟩
  | 15 => ⟨S_, .i32⟩
  | 16 => ⟨S16384, .i32⟩
  | 17 => ⟨S16384, .i32⟩
  | 18 => ⟨S16384x1, .i32⟩
  | 19 => ⟨S16384x1, .i32⟩
  | 20 => ⟨S16384x1, .i32⟩
  | 21 => ⟨S16384x1, .i32⟩
  | 22 => ⟨S16384x1, .i32⟩
  | 23 => ⟨S16384x1, .i32⟩
  | 24 => ⟨S16384x1, .i32⟩
  | 25 => ⟨S16384x1, .i32⟩
  | 26 => ⟨S16384x8, .i32⟩
  | 27 => ⟨S16384x8, .f32⟩
  | 28 => ⟨S16384x1, .i32⟩
  | 29 => ⟨S16384x1, .f32⟩
  | 30 => ⟨S16384x49, .f32⟩
  | 31 => ⟨S16384x128, .f32⟩
  | 32 => ⟨S1x128, .f32⟩
  | 33 => ⟨S16384x128, .f32⟩
  | 34 => ⟨S16384x128, .f32⟩
  | 35 => ⟨S16384x128, .f32⟩
  | 36 => ⟨S16384x128, .f32⟩
  | 37 => ⟨S16384x128, .f32⟩
  | 38 => ⟨S1x128, .f32⟩
  | 39 => ⟨S16384x128, .f32⟩
  | 40 => ⟨S16384x128, .f32⟩
  | 41 => ⟨S16384x1x128, .f32⟩
  | 42 => ⟨S64x128, .f32⟩
  | 43 => ⟨S16384x1x64, .f32⟩
  | 44 => ⟨S_, .f32⟩
  | 45 => ⟨S16384x1, .f32⟩
  | 46 => ⟨S_, .f32⟩
  | 47 => ⟨S16384x1, .f32⟩
  | 48 => ⟨S16384x1, .f32⟩
  | 49 => ⟨S16384x1x1, .f32⟩
  | 50 => ⟨S16384x1x64, .f32⟩
  | 51 => ⟨S16384x1x64, .f32⟩
  | 52 => ⟨S16384x1x64, .f32⟩
  | 53 => ⟨S_, .f32⟩
  | 54 => ⟨S16384x1, .f32⟩
  | 55 => ⟨S16384x1x1, .f32⟩
  | 56 => ⟨S16384x1x64, .f32⟩
  | 57 => ⟨S16384x1x64, .f32⟩
  | 58 => ⟨S16384x1x128, .f32⟩
  | 59 => ⟨S16384x1x128, .f32⟩
  | 60 => ⟨S64x128, .f32⟩
  | 61 => ⟨S64x128, .f32⟩
  | 62 => ⟨S_, .f32⟩
  | 63 => ⟨S64x128, .f32⟩
  | 64 => ⟨S64x128, .f32⟩
  | 65 => ⟨S64x128, .f32⟩
  | 66 => ⟨S_, .f32⟩
  | 67 => ⟨S_, .f32⟩
  | 68 => ⟨S_, .f32⟩
  | 69 => ⟨S_, .f32⟩
  | 70 => ⟨S16384x1x64, .f32⟩
  | 71 => ⟨S16384x1x64, .f32⟩
  | 72 => ⟨S_, .f32⟩
  | 73 => ⟨S16384x1, .f32⟩
  | 74 => ⟨S_, .f32⟩
  | 75 => ⟨S_, .f32⟩
  | 76 => ⟨S_, .f32⟩
  | 77 => ⟨S_, .f32⟩
  | 78 => ⟨S_, .f32⟩
  | 79 => ⟨S64x128, .f32⟩
  | 80 => ⟨S_, .f32⟩
  | 81 => ⟨S64, .f32⟩
  | 82 => ⟨S64x1, .f32⟩
  | 83 => ⟨S64x1, .f32⟩
  | 84 => ⟨S_, .f32⟩
  | 85 => ⟨S64x1, .f32⟩
  | 86 => ⟨S64x1, .f32⟩
  | 87 => ⟨S64x128, .f32⟩
  | 88 => ⟨S64x128, .f32⟩
  | 89 => ⟨S128x64, .f32⟩
  | 90 => ⟨S64x64, .f32⟩
  | 91 => ⟨S64x64, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S64x128, .f32⟩
  | 109 => ⟨S16384x1x64, .f32⟩
  | 110 => ⟨S_, .f32⟩
  | 111 => ⟨S16384x1, .f32⟩
  | 112 => ⟨S_, .f32⟩
  | 113 => ⟨S16384x1, .f32⟩
  | 114 => ⟨S16384x1, .f32⟩
  | 115 => ⟨S16384x1x1, .f32⟩
  | 116 => ⟨S16384x1x64, .f32⟩
  | 117 => ⟨S16384x1x64, .f32⟩
  | 118 => ⟨S16384x1x64, .f32⟩
  | 119 => ⟨S_, .f32⟩
  | 120 => ⟨S16384x1, .f32⟩
  | 121 => ⟨S16384x1x1, .f32⟩
  | 122 => ⟨S16384x1x64, .f32⟩
  | 123 => ⟨S16384x1x64, .f32⟩
  | 124 => ⟨S16384x1x128, .f32⟩
  | 125 => ⟨S16384x1x128, .f32⟩
  | 126 => ⟨S64x128, .f32⟩
  | 127 => ⟨S64x128, .f32⟩
  | _ => ⟨S16384, .i32⟩

abbrev hbmTy0_2 (i : Nat) : BufTy := match i % 128 with
  | 0 => ⟨S_, .f32⟩
  | 1 => ⟨S64x128, .f32⟩
  | 2 => ⟨S64x128, .f32⟩
  | 3 => ⟨S64x128, .f32⟩
  | 4 => ⟨S_, .f32⟩
  | 5 => ⟨S_, .f32⟩
  | 6 => ⟨S_, .f32⟩
  | 7 => ⟨S_, .f32⟩
  | 8 => ⟨S16384x1x64, .f32⟩
  | 9 => ⟨S16384x1x64, .f32⟩
  | 10 => ⟨S_, .f32⟩
  | 11 => ⟨S16384x1, .f32⟩
  | 12 => ⟨S_, .f32⟩
  | 13 => ⟨S_, .f32⟩
  | 14 => ⟨S_, .f32⟩
  | 15 => ⟨S_, .f32⟩
  | 16 => ⟨S_, .f32⟩
  | 17 => ⟨S64x128, .f32⟩
  | 18 => ⟨S_, .f32⟩
  | 19 => ⟨S64, .f32⟩
  | 20 => ⟨S64x1, .f32⟩
  | 21 => ⟨S64x1, .f32⟩
  | 22 => ⟨S_, .f32⟩
  | 23 => ⟨S64x1, .f32⟩
  | 24 => ⟨S64x1, .f32⟩
  | 25 => ⟨S64x128, .f32⟩
  | 26 => ⟨S64x128, .f32⟩
  | 27 => ⟨S128x64, .f32⟩
  | 28 => ⟨S64x64, .f32⟩
  | 29 => ⟨S64x64, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S16384x128, .f32⟩
  | 46 => ⟨S16384x64, .f32⟩
  | 47 => ⟨S1x64, .f32⟩
  | 48 => ⟨S16384x64, .f32⟩
  | 49 => ⟨S16384x64, .f32⟩
  | 50 => ⟨S_, .f32⟩
  | 51 => ⟨S16384x64, .f32⟩
  | 52 => ⟨S16384x64, .f32⟩
  | 53 => ⟨S16384x8, .f32⟩
  | 54 => ⟨S1x8, .f32⟩
  | 55 => ⟨S16384x8, .f32⟩
  | 56 => ⟨S16384x8, .f32⟩
  | 57 => ⟨S16384x8, .f32⟩
  | 58 => ⟨S16384x8, .f32⟩
  | 59 => ⟨S_, .f32⟩
  | 60 => ⟨S16384x8, .f32⟩
  | 61 => ⟨S16384x8, .f32⟩
  | 62 => ⟨S_, .f32⟩
  | 63 => ⟨S16384x8, .f32⟩
  | 64 => ⟨S16384x8, .f32⟩
  | _ => ⟨S16384, .i32⟩

abbrev hbmTy (i : Nat) : BufTy := match i / 128 with
  | 0 => hbmTy0_0 i
  | 1 => hbmTy0_1 i
  | 2 => hbmTy0_2 i
  | _ => ⟨S16384, .i32⟩

abbrev bufTy : (tb : Table) → Fin (tcTables nBuf tb) → BufTy
  | .hbm, ⟨i, _⟩ => hbmTy i
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v0 : Ref sig .tc := ⟨.hbm, 39, rfl⟩
abbrev main_c : Ref sig .tc := ⟨.hbm, 40, rfl⟩
abbrev main_v1 : Ref sig .tc := ⟨.hbm, 41, rfl⟩
abbrev main_v2 : Ref sig .tc := ⟨.hbm, 42, rfl⟩
abbrev main_c_0 : Ref sig .tc := ⟨.hbm, 43, rfl⟩
abbrev main_v3 : Ref sig .tc := ⟨.hbm, 44, rfl⟩
abbrev main_v4 : Ref sig .tc := ⟨.hbm, 45, rfl⟩
abbrev main_c_1 : Ref sig .tc := ⟨.hbm, 46, rfl⟩
abbrev main_v5 : Ref sig .tc := ⟨.hbm, 47, rfl⟩
abbrev main_v6 : Ref sig .tc := ⟨.hbm, 48, rfl⟩
abbrev main_c_2 : Ref sig .tc := ⟨.hbm, 49, rfl⟩
abbrev main_v7 : Ref sig .tc := ⟨.hbm, 50, rfl⟩
abbrev main_v8 : Ref sig .tc := ⟨.hbm, 51, rfl⟩
abbrev main_c_3 : Ref sig .tc := ⟨.hbm, 52, rfl⟩
abbrev main_v9 : Ref sig .tc := ⟨.hbm, 53, rfl⟩
abbrev main_v10 : Ref sig .tc := ⟨.hbm, 54, rfl⟩
abbrev main_c_4 : Ref sig .tc := ⟨.hbm, 55, rfl⟩
abbrev main_v11 : Ref sig .tc := ⟨.hbm, 56, rfl⟩
abbrev main_v12 : Ref sig .tc := ⟨.hbm, 57, rfl⟩
abbrev main_c_5 : Ref sig .tc := ⟨.hbm, 58, rfl⟩
abbrev main_v13 : Ref sig .tc := ⟨.hbm, 59, rfl⟩
abbrev main_v14 : Ref sig .tc := ⟨.hbm, 60, rfl⟩
abbrev main_c_6 : Ref sig .tc := ⟨.hbm, 61, rfl⟩
abbrev main_v15 : Ref sig .tc := ⟨.hbm, 62, rfl⟩
abbrev main_v16 : Ref sig .tc := ⟨.hbm, 63, rfl⟩
abbrev main_c_7 : Ref sig .tc := ⟨.hbm, 64, rfl⟩
abbrev main_v17 : Ref sig .tc := ⟨.hbm, 65, rfl⟩
abbrev main_v18 : Ref sig .tc := ⟨.hbm, 66, rfl⟩
abbrev main_c_8 : Ref sig .tc := ⟨.hbm, 67, rfl⟩
abbrev main_v19 : Ref sig .tc := ⟨.hbm, 68, rfl⟩
abbrev main_v20 : Ref sig .tc := ⟨.hbm, 69, rfl⟩
abbrev main_c_9 : Ref sig .tc := ⟨.hbm, 70, rfl⟩
abbrev main_v21 : Ref sig .tc := ⟨.hbm, 71, rfl⟩
abbrev main_v22 : Ref sig .tc := ⟨.hbm, 72, rfl⟩
abbrev main_c_10 : Ref sig .tc := ⟨.hbm, 73, rfl⟩
abbrev main_v23 : Ref sig .tc := ⟨.hbm, 74, rfl⟩
abbrev main_v24 : Ref sig .tc := ⟨.hbm, 75, rfl⟩
abbrev main_c_11 : Ref sig .tc := ⟨.hbm, 76, rfl⟩
abbrev main_v25 : Ref sig .tc := ⟨.hbm, 77, rfl⟩
abbrev main_v26 : Ref sig .tc := ⟨.hbm, 78, rfl⟩
abbrev main_c_12 : Ref sig .tc := ⟨.hbm, 79, rfl⟩
abbrev main_v27 : Ref sig .tc := ⟨.hbm, 80, rfl⟩
abbrev main_v28 : Ref sig .tc := ⟨.hbm, 81, rfl⟩
abbrev main_c_13 : Ref sig .tc := ⟨.hbm, 82, rfl⟩
abbrev main_v29 : Ref sig .tc := ⟨.hbm, 83, rfl⟩
abbrev main_v30 : Ref sig .tc := ⟨.hbm, 84, rfl⟩
abbrev main_c_14 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_v40 : Ref sig .tc := ⟨.hbm, 95, rfl⟩
abbrev main_v41 : Ref sig .tc := ⟨.hbm, 96, rfl⟩
abbrev main_v42 : Ref sig .tc := ⟨.hbm, 97, rfl⟩
abbrev main_c_15 : Ref sig .tc := ⟨.hbm, 98, rfl⟩
abbrev main_v43 : Ref sig .tc := ⟨.hbm, 99, rfl⟩
abbrev main_v44 : Ref sig .tc := ⟨.hbm, 100, rfl⟩
abbrev main_c_16 : Ref sig .tc := ⟨.hbm, 101, rfl⟩
abbrev main_v45 : Ref sig .tc := ⟨.hbm, 102, rfl⟩
abbrev main_v46 : Ref sig .tc := ⟨.hbm, 103, rfl⟩
abbrev main_c_17 : Ref sig .tc := ⟨.hbm, 104, rfl⟩
abbrev main_v47 : Ref sig .tc := ⟨.hbm, 105, rfl⟩
abbrev main_v48 : Ref sig .tc := ⟨.hbm, 106, rfl⟩
abbrev main_c_18 : Ref sig .tc := ⟨.hbm, 107, rfl⟩
abbrev main_v49 : Ref sig .tc := ⟨.hbm, 108, rfl⟩
abbrev main_v50 : Ref sig .tc := ⟨.hbm, 109, rfl⟩
abbrev main_c_19 : Ref sig .tc := ⟨.hbm, 110, rfl⟩
abbrev main_v51 : Ref sig .tc := ⟨.hbm, 111, rfl⟩
abbrev main_v52 : Ref sig .tc := ⟨.hbm, 112, rfl⟩
abbrev main_c_20 : Ref sig .tc := ⟨.hbm, 113, rfl⟩
abbrev main_v53 : Ref sig .tc := ⟨.hbm, 114, rfl⟩
abbrev main_v54 : Ref sig .tc := ⟨.hbm, 115, rfl⟩
abbrev main_c_21 : Ref sig .tc := ⟨.hbm, 116, rfl⟩
abbrev main_v55 : Ref sig .tc := ⟨.hbm, 117, rfl⟩
abbrev main_v56 : Ref sig .tc := ⟨.hbm, 118, rfl⟩
abbrev main_c_22 : Ref sig .tc := ⟨.hbm, 119, rfl⟩
abbrev main_v57 : Ref sig .tc := ⟨.hbm, 120, rfl⟩
abbrev main_v58 : Ref sig .tc := ⟨.hbm, 121, rfl⟩
abbrev main_c_23 : Ref sig .tc := ⟨.hbm, 122, rfl⟩
abbrev main_v59 : Ref sig .tc := ⟨.hbm, 123, rfl⟩
abbrev main_v60 : Ref sig .tc := ⟨.hbm, 124, rfl⟩
abbrev main_c_24 : Ref sig .tc := ⟨.hbm, 125, rfl⟩
abbrev main_v61 : Ref sig .tc := ⟨.hbm, 126, rfl⟩
abbrev main_v62 : Ref sig .tc := ⟨.hbm, 127, rfl⟩
abbrev main_c_25 : Ref sig .tc := ⟨.hbm, 128, rfl⟩
abbrev main_v63 : Ref sig .tc := ⟨.hbm, 129, rfl⟩
abbrev main_v64 : Ref sig .tc := ⟨.hbm, 130, rfl⟩
abbrev main_c_26 : Ref sig .tc := ⟨.hbm, 131, rfl⟩
abbrev main_v65 : Ref sig .tc := ⟨.hbm, 132, rfl⟩
abbrev main_v66 : Ref sig .tc := ⟨.hbm, 133, rfl⟩
abbrev main_c_27 : Ref sig .tc := ⟨.hbm, 134, rfl⟩
abbrev main_v67 : Ref sig .tc := ⟨.hbm, 135, rfl⟩
abbrev main_v68 : Ref sig .tc := ⟨.hbm, 136, rfl⟩
abbrev main_c_28 : Ref sig .tc := ⟨.hbm, 137, rfl⟩
abbrev main_v69 : Ref sig .tc := ⟨.hbm, 138, rfl⟩
abbrev main_v70 : Ref sig .tc := ⟨.hbm, 139, rfl⟩
abbrev main_c_29 : Ref sig .tc := ⟨.hbm, 140, rfl⟩
abbrev main_v71 : Ref sig .tc := ⟨.hbm, 141, rfl⟩
abbrev main_v72 : Ref sig .tc := ⟨.hbm, 142, rfl⟩
abbrev main_c_30 : Ref sig .tc := ⟨.hbm, 143, rfl⟩
abbrev main_v73 : Ref sig .tc := ⟨.hbm, 144, rfl⟩
abbrev main_v74 : Ref sig .tc := ⟨.hbm, 145, rfl⟩
abbrev main_v75 : Ref sig .tc := ⟨.hbm, 146, rfl⟩
abbrev main_v76 : Ref sig .tc := ⟨.hbm, 147, rfl⟩
abbrev main_v77 : Ref sig .tc := ⟨.hbm, 148, rfl⟩
abbrev main_v78 : Ref sig .tc := ⟨.hbm, 149, rfl⟩
abbrev main_v79 : Ref sig .tc := ⟨.hbm, 150, rfl⟩
abbrev main_v80 : Ref sig .tc := ⟨.hbm, 151, rfl⟩
abbrev main_v81 : Ref sig .tc := ⟨.hbm, 152, rfl⟩
abbrev main_v82 : Ref sig .tc := ⟨.hbm, 153, rfl⟩
abbrev main_v83 : Ref sig .tc := ⟨.hbm, 154, rfl⟩
abbrev main_v84 : Ref sig .tc := ⟨.hbm, 155, rfl⟩
abbrev main_v85 : Ref sig .tc := ⟨.hbm, 156, rfl⟩
abbrev main_v86 : Ref sig .tc := ⟨.hbm, 157, rfl⟩
abbrev main_v87 : Ref sig .tc := ⟨.hbm, 158, rfl⟩
abbrev main_v88 : Ref sig .tc := ⟨.hbm, 159, rfl⟩
abbrev main_v89 : Ref sig .tc := ⟨.hbm, 160, rfl⟩
abbrev main_v90 : Ref sig .tc := ⟨.hbm, 161, rfl⟩
abbrev main_v91 : Ref sig .tc := ⟨.hbm, 162, rfl⟩
abbrev main_v92 : Ref sig .tc := ⟨.hbm, 163, rfl⟩
abbrev main_v93 : Ref sig .tc := ⟨.hbm, 164, rfl⟩
abbrev main_v94 : Ref sig .tc := ⟨.hbm, 165, rfl⟩
abbrev main_v95 : Ref sig .tc := ⟨.hbm, 166, rfl⟩
abbrev main_v96 : Ref sig .tc := ⟨.hbm, 167, rfl⟩
abbrev main_v97 : Ref sig .tc := ⟨.hbm, 168, rfl⟩
abbrev main_v98 : Ref sig .tc := ⟨.hbm, 169, rfl⟩
abbrev main_v99 : Ref sig .tc := ⟨.hbm, 170, rfl⟩
abbrev main_v100 : Ref sig .tc := ⟨.hbm, 171, rfl⟩
abbrev main_cst : Ref sig .tc := ⟨.hbm, 172, rfl⟩
abbrev main_v101 : Ref sig .tc := ⟨.hbm, 173, rfl⟩
abbrev main_cst_31 : Ref sig .tc := ⟨.hbm, 174, rfl⟩
abbrev main_v102 : Ref sig .tc := ⟨.hbm, 175, rfl⟩
abbrev main_v103 : Ref sig .tc := ⟨.hbm, 176, rfl⟩
abbrev main_v104 : Ref sig .tc := ⟨.hbm, 177, rfl⟩
abbrev main_v105 : Ref sig .tc := ⟨.hbm, 178, rfl⟩
abbrev main_v106 : Ref sig .tc := ⟨.hbm, 179, rfl⟩
abbrev main_v107 : Ref sig .tc := ⟨.hbm, 180, rfl⟩
abbrev main_cst_32 : Ref sig .tc := ⟨.hbm, 181, rfl⟩
abbrev main_v108 : Ref sig .tc := ⟨.hbm, 182, rfl⟩
abbrev main_v109 : Ref sig .tc := ⟨.hbm, 183, rfl⟩
abbrev main_v110 : Ref sig .tc := ⟨.hbm, 184, rfl⟩
abbrev main_v111 : Ref sig .tc := ⟨.hbm, 185, rfl⟩
abbrev main_v112 : Ref sig .tc := ⟨.hbm, 186, rfl⟩
abbrev main_v113 : Ref sig .tc := ⟨.hbm, 187, rfl⟩
abbrev main_v114 : Ref sig .tc := ⟨.hbm, 188, rfl⟩
abbrev main_v115 : Ref sig .tc := ⟨.hbm, 189, rfl⟩
abbrev main_cst_33 : Ref sig .tc := ⟨.hbm, 190, rfl⟩
abbrev main_v116 : Ref sig .tc := ⟨.hbm, 191, rfl⟩
abbrev main_v117 : Ref sig .tc := ⟨.hbm, 192, rfl⟩
abbrev main_v118 : Ref sig .tc := ⟨.hbm, 193, rfl⟩
abbrev main_cst_34 : Ref sig .tc := ⟨.hbm, 194, rfl⟩
abbrev main_v119 : Ref sig .tc := ⟨.hbm, 195, rfl⟩
abbrev main_cst_35 : Ref sig .tc := ⟨.hbm, 196, rfl⟩
abbrev main_v120 : Ref sig .tc := ⟨.hbm, 197, rfl⟩
abbrev main_v121 : Ref sig .tc := ⟨.hbm, 198, rfl⟩
abbrev main_v122 : Ref sig .tc := ⟨.hbm, 199, rfl⟩
abbrev main_cst_36 : Ref sig .tc := ⟨.hbm, 200, rfl⟩
abbrev main_v123 : Ref sig .tc := ⟨.hbm, 201, rfl⟩
abbrev main_cst_37 : Ref sig .tc := ⟨.hbm, 202, rfl⟩
abbrev main_v124 : Ref sig .tc := ⟨.hbm, 203, rfl⟩
abbrev main_cst_38 : Ref sig .tc := ⟨.hbm, 204, rfl⟩
abbrev main_v125 : Ref sig .tc := ⟨.hbm, 205, rfl⟩
abbrev main_v126 : Ref sig .tc := ⟨.hbm, 206, rfl⟩
abbrev main_call1_v0 : Ref sig .tc := ⟨.hbm, 207, rfl⟩
abbrev main_call1_cst : Ref sig .tc := ⟨.hbm, 208, rfl⟩
abbrev main_call1_v1 : Ref sig .tc := ⟨.hbm, 209, rfl⟩
abbrev main_call1_v2 : Ref sig .tc := ⟨.hbm, 210, rfl⟩
abbrev main_v127 : Ref sig .tc := ⟨.hbm, 211, rfl⟩
abbrev main_cst_39 : Ref sig .tc := ⟨.hbm, 212, rfl⟩
abbrev main_v128 : Ref sig .tc := ⟨.hbm, 213, rfl⟩
abbrev main_v129 : Ref sig .tc := ⟨.hbm, 214, rfl⟩
abbrev main_v130 : Ref sig .tc := ⟨.hbm, 215, rfl⟩
abbrev main_v131 : Ref sig .tc := ⟨.hbm, 216, rfl⟩
abbrev main_v132 : Ref sig .tc := ⟨.hbm, 217, rfl⟩
abbrev main_v133 : Ref sig .tc := ⟨.hbm, 218, rfl⟩
abbrev main_v134 : Ref sig .tc := ⟨.hbm, 219, rfl⟩
abbrev main_cst_40 : Ref sig .tc := ⟨.hbm, 220, rfl⟩
abbrev main_v135 : Ref sig .tc := ⟨.hbm, 221, rfl⟩
abbrev main_cst_41 : Ref sig .tc := ⟨.hbm, 222, rfl⟩
abbrev main_v136 : Ref sig .tc := ⟨.hbm, 223, rfl⟩
abbrev main_cst_42 : Ref sig .tc := ⟨.hbm, 224, rfl⟩
abbrev main_v137 : Ref sig .tc := ⟨.hbm, 225, rfl⟩
abbrev main_cst_43 : Ref sig .tc := ⟨.hbm, 226, rfl⟩
abbrev main_v138 : Ref sig .tc := ⟨.hbm, 227, rfl⟩
abbrev main_cst_44 : Ref sig .tc := ⟨.hbm, 228, rfl⟩
abbrev main_v139 : Ref sig .tc := ⟨.hbm, 229, rfl⟩
abbrev main_v140 : Ref sig .tc := ⟨.hbm, 230, rfl⟩
abbrev main_cst_45 : Ref sig .tc := ⟨.hbm, 231, rfl⟩
abbrev main_v141 : Ref sig .tc := ⟨.hbm, 232, rfl⟩
abbrev main_v142 : Ref sig .tc := ⟨.hbm, 233, rfl⟩
abbrev main_cst_46 : Ref sig .tc := ⟨.hbm, 234, rfl⟩
abbrev main_v143 : Ref sig .tc := ⟨.hbm, 235, rfl⟩
abbrev main_v144 : Ref sig .tc := ⟨.hbm, 236, rfl⟩
abbrev main_v145 : Ref sig .tc := ⟨.hbm, 237, rfl⟩
abbrev main_cst_47 : Ref sig .tc := ⟨.hbm, 238, rfl⟩
abbrev main_v146 : Ref sig .tc := ⟨.hbm, 239, rfl⟩
abbrev main_cst_48 : Ref sig .tc := ⟨.hbm, 240, rfl⟩
abbrev main_v147 : Ref sig .tc := ⟨.hbm, 241, rfl⟩
abbrev main_v148 : Ref sig .tc := ⟨.hbm, 242, rfl⟩
abbrev main_v149 : Ref sig .tc := ⟨.hbm, 243, rfl⟩
abbrev main_v150 : Ref sig .tc := ⟨.hbm, 244, rfl⟩
abbrev main_v151 : Ref sig .tc := ⟨.hbm, 245, rfl⟩
abbrev main_v152 : Ref sig .tc := ⟨.hbm, 246, rfl⟩
abbrev main_cst_49 : Ref sig .tc := ⟨.hbm, 247, rfl⟩
abbrev main_v153 : Ref sig .tc := ⟨.hbm, 248, rfl⟩
abbrev main_v154 : Ref sig .tc := ⟨.hbm, 249, rfl⟩
abbrev main_v155 : Ref sig .tc := ⟨.hbm, 250, rfl⟩
abbrev main_v156 : Ref sig .tc := ⟨.hbm, 251, rfl⟩
abbrev main_v157 : Ref sig .tc := ⟨.hbm, 252, rfl⟩
abbrev main_v158 : Ref sig .tc := ⟨.hbm, 253, rfl⟩
abbrev main_v159 : Ref sig .tc := ⟨.hbm, 254, rfl⟩
abbrev main_v160 : Ref sig .tc := ⟨.hbm, 255, rfl⟩
abbrev main_cst_50 : Ref sig .tc := ⟨.hbm, 256, rfl⟩
abbrev main_v161 : Ref sig .tc := ⟨.hbm, 257, rfl⟩
abbrev main_v162 : Ref sig .tc := ⟨.hbm, 258, rfl⟩
abbrev main_v163 : Ref sig .tc := ⟨.hbm, 259, rfl⟩
abbrev main_cst_51 : Ref sig .tc := ⟨.hbm, 260, rfl⟩
abbrev main_v164 : Ref sig .tc := ⟨.hbm, 261, rfl⟩
abbrev main_cst_52 : Ref sig .tc := ⟨.hbm, 262, rfl⟩
abbrev main_v165 : Ref sig .tc := ⟨.hbm, 263, rfl⟩
abbrev main_v166 : Ref sig .tc := ⟨.hbm, 264, rfl⟩
abbrev main_v167 : Ref sig .tc := ⟨.hbm, 265, rfl⟩
abbrev main_cst_53 : Ref sig .tc := ⟨.hbm, 266, rfl⟩
abbrev main_v168 : Ref sig .tc := ⟨.hbm, 267, rfl⟩
abbrev main_cst_54 : Ref sig .tc := ⟨.hbm, 268, rfl⟩
abbrev main_v169 : Ref sig .tc := ⟨.hbm, 269, rfl⟩
abbrev main_cst_55 : Ref sig .tc := ⟨.hbm, 270, rfl⟩
abbrev main_v170 : Ref sig .tc := ⟨.hbm, 271, rfl⟩
abbrev main_v171 : Ref sig .tc := ⟨.hbm, 272, rfl⟩
abbrev main_call2_v0 : Ref sig .tc := ⟨.hbm, 273, rfl⟩
abbrev main_call2_cst : Ref sig .tc := ⟨.hbm, 274, rfl⟩
abbrev main_call2_v1 : Ref sig .tc := ⟨.hbm, 275, rfl⟩
abbrev main_call2_v2 : Ref sig .tc := ⟨.hbm, 276, rfl⟩
abbrev main_v172 : Ref sig .tc := ⟨.hbm, 277, rfl⟩
abbrev main_cst_56 : Ref sig .tc := ⟨.hbm, 278, rfl⟩
abbrev main_v173 : Ref sig .tc := ⟨.hbm, 279, rfl⟩
abbrev main_v174 : Ref sig .tc := ⟨.hbm, 280, rfl⟩
abbrev main_v175 : Ref sig .tc := ⟨.hbm, 281, rfl⟩
abbrev main_v176 : Ref sig .tc := ⟨.hbm, 282, rfl⟩
abbrev main_v177 : Ref sig .tc := ⟨.hbm, 283, rfl⟩
abbrev main_v178 : Ref sig .tc := ⟨.hbm, 284, rfl⟩
abbrev main_v179 : Ref sig .tc := ⟨.hbm, 285, rfl⟩
abbrev main_cst_57 : Ref sig .tc := ⟨.hbm, 286, rfl⟩
abbrev main_v180 : Ref sig .tc := ⟨.hbm, 287, rfl⟩
abbrev main_cst_58 : Ref sig .tc := ⟨.hbm, 288, rfl⟩
abbrev main_v181 : Ref sig .tc := ⟨.hbm, 289, rfl⟩
abbrev main_cst_59 : Ref sig .tc := ⟨.hbm, 290, rfl⟩
abbrev main_v182 : Ref sig .tc := ⟨.hbm, 291, rfl⟩
abbrev main_cst_60 : Ref sig .tc := ⟨.hbm, 292, rfl⟩
abbrev main_v183 : Ref sig .tc := ⟨.hbm, 293, rfl⟩
abbrev main_cst_61 : Ref sig .tc := ⟨.hbm, 294, rfl⟩
abbrev main_v184 : Ref sig .tc := ⟨.hbm, 295, rfl⟩
abbrev main_v185 : Ref sig .tc := ⟨.hbm, 296, rfl⟩
abbrev main_cst_62 : Ref sig .tc := ⟨.hbm, 297, rfl⟩
abbrev main_v186 : Ref sig .tc := ⟨.hbm, 298, rfl⟩
abbrev main_v187 : Ref sig .tc := ⟨.hbm, 299, rfl⟩
abbrev main_v188 : Ref sig .tc := ⟨.hbm, 300, rfl⟩
abbrev main_v189 : Ref sig .tc := ⟨.hbm, 301, rfl⟩
abbrev main_v190 : Ref sig .tc := ⟨.hbm, 302, rfl⟩
abbrev main_v191 : Ref sig .tc := ⟨.hbm, 303, rfl⟩
abbrev main_v192 : Ref sig .tc := ⟨.hbm, 304, rfl⟩
abbrev main_v193 : Ref sig .tc := ⟨.hbm, 305, rfl⟩
abbrev main_call3_cst : Ref sig .tc := ⟨.hbm, 306, rfl⟩
abbrev main_call3_v0 : Ref sig .tc := ⟨.hbm, 307, rfl⟩
abbrev main_v194 : Ref sig .tc := ⟨.hbm, 308, rfl⟩
abbrev main_v195 : Ref sig .tc := ⟨.hbm, 309, rfl⟩
abbrev main_v196 : Ref sig .tc := ⟨.hbm, 310, rfl⟩
abbrev main_v197 : Ref sig .tc := ⟨.hbm, 311, rfl⟩
abbrev main_v198 : Ref sig .tc := ⟨.hbm, 312, rfl⟩
abbrev main_v199 : Ref sig .tc := ⟨.hbm, 313, rfl⟩
abbrev main_v200 : Ref sig .tc := ⟨.hbm, 314, rfl⟩
abbrev main_cst_63 : Ref sig .tc := ⟨.hbm, 315, rfl⟩
abbrev main_v201 : Ref sig .tc := ⟨.hbm, 316, rfl⟩
abbrev main_v202 : Ref sig .tc := ⟨.hbm, 317, rfl⟩
abbrev main_cst_64 : Ref sig .tc := ⟨.hbm, 318, rfl⟩
abbrev main_v203 : Ref sig .tc := ⟨.hbm, 319, rfl⟩
abbrev main_v204 : Ref sig .tc := ⟨.hbm, 320, rfl⟩

abbrev nD : Nat := 1
abbrev τ : Topo := Topo.v7x

variable {F : FTy → Type} [FloatOps F]
-- ==== Proof.Kern.lean ====
module

public import proofs.«01_k».proof.Proof.Gen.KernelIdeal.Frame
public import Idealize.ShloMosaic.Lib.Pipeline.ValueKit
public import Idealize.ShloMosaic.Lib.Pointwise
public import Idealize.ShloMosaic.Lib.Claim

@[expose] public section

set_option maxRecDepth 16384

noncomputable section

namespace Cert.KernelIdeal.Val

open Idealize.ShloMosaic Idealize.ShloMosaic.TcCoe Idealize.SL.Sem
open Cert.KernelIdeal Cert.KernelIdeal.Gen

/-- `n` consecutive rows of the input weights, from row `o` on. -/
def rowsOf (n o : Nat) (h : o + n ≤ 49) (W : FVec Ideal S49x128 .f32) : FVec Ideal ⟨2, ![n, 128]⟩ .f32 :=
  fun x => W (ix2 ⟨o + (x 0).val, lt_of_lt_of_le (Nat.add_lt_add_left (x 0).isLt o) h⟩ (x 1))

/-- A block of rows of the projection's matrix, read at an element. -/
theorem rowsOf_at (n o : Nat) (h : o + n ≤ 49) (W : FVec Ideal S49x128 .f32) (i : Fin n) (d : Fin 128) :
    rowsOf n o h W (ix2 i d : (⟨2, ![n, 128]⟩ : Shape).Idx) = W (ix2 ⟨o + i.val, lt_of_lt_of_le (Nat.add_lt_add_left i.isLt o) h⟩ d) := rfl

/-- The kernel's input projection over the argument arrays. -/
def X0 (op a b cc : IVec S16384 32) (E : FVec Ideal S8x32 .f32) (W : FVec Ideal S49x128 .f32) : FVec Ideal S128x16384 .f32 :=
  k0_pay8 (F := Ideal) op a b cc E (rowsOf 32 0 (by decide) W) (rowsOf 8 32 (by decide) W) (rowsOf 8 40 (by decide) W) (rowsOf 1 48 (by decide) W)

/-- The kernel's first result, before the host's transpose, over the projection and the remaining arrays. -/
def OUT (x0 : FVec Ideal S128x16384 .f32) (mix : FVec Ideal S128x128 .f32) (s0 v0 s1 v1 : FVec Ideal S64x128 .f32)
    (w1 : FVec Ideal S128x64 .f32) (w2 : FVec Ideal S64x8 .f32) : FVec Ideal S8x16384 .f32 :=
  k0_pay1 (F := Ideal) (k0_pay14 x0 mix s0 v0) (k0_pay20 x0 mix s0 v0 s1) v1 w1 w2

/-- The kernel's second result, before the host's reshape, over the projection and the remaining arrays. -/
def AUX (x0 : FVec Ideal S128x16384 .f32) (mix : FVec Ideal S128x128 .f32) (s0 v0 s1 : FVec Ideal S64x128 .f32) : FVec Ideal S1x1 .f32 :=
  k0_pay3 (F := Ideal) (k0_pay15 x0 mix s0) (k0_pay16 x0 mix s0 v0 s1) (k0_pay17 x0 mix s0 v0 s1) (k0_pay18 x0 mix s0 v0 s1)
    (k0_pay19 x0 mix s0 v0 s1) (k0_pay5 s0) (k0_pay6 s1) (k0_pay7 s1) (Scalar.ofBits .f32 0x46000000#32)

variable (m : (ℓ : Loc nD τ sig) → Buf (Elt Ideal) ℓ)

/-- Every window's block index at the one point (decided). -/
theorem idx : ∀ t : Fin cfg0.N, win0_0.index t = ![0] ∧ win0_1.index t = ![0] ∧ win0_2.index t = ![0] ∧ win0_3.index t = ![0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![0, 0] :=
  (by decide +kernel : ∀ t : Fin grid0.N, _)

/-- The region's input block 0 is its whole argument array. -/
theorem iblk0 (c : Dev nD) : iblk m c 0 t0_0 = m ((c : Thread nD τ).loc main_arg0) := by blk_ext! [iblk, V, idx t0_0]
/-- The region's input block 1 is its whole argument array. -/
theorem iblk1 (c : Dev nD) : iblk m c 1 t0_0 = m ((c : Thread nD τ).loc main_arg1) := by blk_ext! [iblk, V, idx t0_0]
/-- The region's input block 2 is its whole argument array. -/
theorem iblk2 (c : Dev nD) : iblk m c 2 t0_0 = m ((c : Thread nD τ).loc main_arg2) := by blk_ext! [iblk, V, idx t0_0]
/-- The region's input block 3 is its whole argument array. -/
theorem iblk3 (c : Dev nD) : iblk m c 3 t0_0 = m ((c : Thread nD τ).loc main_arg3) := by blk_ext! [iblk, V, idx t0_0]
/-- The region's input block 4 is its whole argument array. -/
theorem iblk4 (c : Dev nD) : iblk m c 4 t0_0 = m ((c : Thread nD τ).loc main_arg4) := by blk_ext! [iblk, V, idx t0_0]
/-- The region's input block 5 is its whole argument array. -/
theorem iblk5 (c : Dev nD) : iblk m c 5 t0_0 = m ((c : Thread nD τ).loc main_arg5) := by blk_ext! [iblk, V, idx t0_0]
/-- The region's input block 6 is its whole argument array. -/
theorem iblk6 (c : Dev nD) : iblk m c 6 t0_0 = m ((c : Thread nD τ).loc main_arg7) := by blk_ext! [iblk, V, idx t0_0]
/-- The region's input block 7 is its whole argument array. -/
theorem iblk7 (c : Dev nD) : iblk m c 7 t0_0 = m ((c : Thread nD τ).loc main_arg9) := by blk_ext! [iblk, V, idx t0_0]
/-- The region's input block 8 is its whole argument array. -/
theorem iblk8 (c : Dev nD) : iblk m c 8 t0_0 = m ((c : Thread nD τ).loc main_arg10) := by blk_ext! [iblk, V, idx t0_0]
/-- The region's input block 9 is its whole argument array. -/
theorem iblk9 (c : Dev nD) : iblk m c 9 t0_0 = m ((c : Thread nD τ).loc main_arg11) := by blk_ext! [iblk, V, idx t0_0]
/-- The region's input block 10 is its whole argument array. -/
theorem iblk10 (c : Dev nD) : iblk m c 10 t0_0 = m ((c : Thread nD τ).loc main_arg12) := by blk_ext! [iblk, V, idx t0_0]
/-- The region's input block 11 is its whole argument array. -/
theorem iblk11 (c : Dev nD) : iblk m c 11 t0_0 = m ((c : Thread nD τ).loc main_arg13) := by blk_ext! [iblk, V, idx t0_0]
/-- The region's input block 12 is its whole argument array. -/
theorem iblk12 (c : Dev nD) : iblk m c 12 t0_0 = m ((c : Thread nD τ).loc main_arg15) := by blk_ext! [iblk, V, idx t0_0]

/-- The projection of the argument arrays in memory `m`. -/
def X0m (c : Dev nD) : FVec Ideal S128x16384 .f32 :=
  X0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- The kernel's first result, before the transpose, of the argument arrays in memory `m`. -/
def OUTm (c : Dev nD) : FVec Ideal S8x16384 .f32 :=
  OUT (X0m m c) (m ((c : Thread nD τ).loc main_arg7)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg15))

/-- The kernel's second result, before the reshape, of the argument arrays in memory `m`. -/
def AUXm (c : Dev nD) : FVec Ideal S1x1 .f32 :=
  AUX (X0m m c) (m ((c : Thread nD τ).loc main_arg7)) (m ((c : Thread nD τ).loc main_arg9)) (m ((c : Thread nD τ).loc main_arg10)) (m ((c : Thread nD τ).loc main_arg11))

/-- The input projection over equal blocks of its matrix. -/
theorem pay8_congr (op a b cc : IVec S16384 32) (E : FVec Ideal S8x32 .f32) {w0 w0' : FVec Ideal S32x128 .f32} {w1 w1' w2 w2' : FVec Ideal S8x128 .f32} {w3 w3' : FVec Ideal S1x128 .f32}
    (h0 : w0 = w0') (h1 : w1 = w1') (h2 : w2 = w2') (h3 : w3 = w3') :
    k0_pay8 (F := Ideal) op a b cc E w0 w1 w2 w3 = k0_pay8 op a b cc E w0' w1' w2' w3' := by
  rw [h0, h1, h2, h3]

/-- The first output's block is the first result's term. -/
theorem out_of (c : Dev nD) (x0 : FVec Ideal S128x16384 .f32) (h : x0 = X0m m c) (j : S8x16384.Idx) :
    OUT x0 (m ((c : Thread nD τ).loc main_arg7)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg15)) j = OUTm m c j := by
  rw [h]; rfl

/-- The second output's block is the second result's term. -/
theorem aux_of (c : Dev nD) (x0 : FVec Ideal S128x16384 .f32) (h : x0 = X0m m c) (j : S1x1.Idx) :
    AUX x0 (m ((c : Thread nD τ).loc main_arg7)) (m ((c : Thread nD τ).loc main_arg9)) (m ((c : Thread nD τ).loc main_arg10)) (m ((c : Thread nD τ).loc main_arg11)) j = AUXm m c j := by
  rw [h]; rfl

/-- The region's first output array is the payload over the argument arrays. -/
theorem final13 (c : Dev nD) : (dats m 0 c).arrAt 13 cfg0.N = OUTm m c := by
  refine (dats m 0 c).arrAt_eq_of_after_last 13 t0_0 (by decide +kernel) _ fun j => ?_
  blk_simp
  rw [after0_13]
  unfold outsAt0
  frame_out
  rw [iblk0, iblk1, iblk2, iblk3, iblk4, iblk5, iblk6, iblk7, iblk8, iblk9, iblk10, iblk11, iblk12]
  refine out_of m c _ ?_ j
  refine pay8_congr _ _ _ _ _ ?_ ?_ ?_ ?_
  all_goals (funext x; idx_vars x; rw [rowsOf_at]; pointwise)

/-- The region's second output array is the payload over the argument arrays. -/
theorem final14 (c : Dev nD) : (dats m 0 c).arrAt 14 cfg0.N = AUXm m c := by
  refine (dats m 0 c).arrAt_eq_of_after_last 14 t0_0 (by decide +kernel) _ fun j => ?_
  blk_simp
  rw [after0_14]
  unfold outsAt0
  frame_out
  rw [iblk0, iblk1, iblk2, iblk3, iblk4, iblk5, iblk6, iblk7, iblk8, iblk9]
  refine aux_of m c _ ?_ j
  refine pay8_congr _ _ _ _ _ ?_ ?_ ?_ ?_
  all_goals (funext x; idx_vars x; rw [rowsOf_at]; pointwise)

end Cert.KernelIdeal.Val

end
-- ==== Proof.KRun.lean ====
module

public import proofs.«01_k».proof.Proof.Kern
public import Idealize.ShloMosaic.Lib.Pipeline.ValueKit
public import Idealize.ShloMosaic.Lib.Pointwise
public import Idealize.ShloMosaic.Lib.Claim

@[expose] public section

set_option maxRecDepth 16384

noncomputable section

namespace Cert.KernelIdeal.Val

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

/-- The host's transpose of the first output. -/
def RES0 (c : Dev nD) : FVec Ideal S16384x8 .f32 := transpose S16384x8 [1, 0] (OUTm m c) transposes_S8x16384_S16384x8_1_0

/-- The host's scalar of the second output. -/
def RES1 (c : Dev nD) : FVec Ideal S_ .f32 := shapeCast S_ (AUXm m c) shapeCasts_S1x1_S_

/-- After the host's operations, the first result is the transpose of the region's first output. -/
theorem after1 (W : Valuation τ sig (Elt Ideal)) (o : FVec Ideal S8x16384 .f32) (h : W (Proc.devRef .tc main_v0_0) = o) :
    StableHlo.after hostOps1 W (Proc.devRef .tc main_v1) = transpose S16384x8 [1, 0] o transposes_S8x16384_S16384x8_1_0 := by
  subst h
  after_results

/-- After the host's operations, the second result is the region's second output reshaped. -/
theorem after2 (W : Valuation τ sig (Elt Ideal)) (o : FVec Ideal S1x1 .f32) (h : W (Proc.devRef .tc main_v0_1) = o) :
    StableHlo.after hostOps1 W (Proc.devRef .tc main_v2) = shapeCast S_ o shapeCasts_S1x1_S_ := by
  subst h
  after_results
  rfl

/-- The first result at the end of the run. -/
theorem tail1 (c : Dev nD) : Pipeline.afterTail₀ cfgs (dats m) 0 (V0 m) [hostOps1] c main_v1 = RES0 m c :=
  after1 _ _ ((Pipeline.withArrays_arr spec0 launch0.win.arr_inj c (V0 m c) (fun w => (dats m 0 c).arrAt w cfg0.N) 13).trans (final13 m c))

/-- The second result at the end of the run. -/
theorem tail2 (c : Dev nD) : Pipeline.afterTail₀ cfgs (dats m) 0 (V0 m) [hostOps1] c main_v2 = RES1 m c :=
  after2 _ _ ((Pipeline.withArrays_arr spec0 launch0.win.arr_inj c (V0 m c) (fun w => (dats m 0 c).arrAt w cfg0.N) 14).trans (final14 m c))

/-- The kernel's run: every execution ends with both results at these terms of the launch arrays. -/
theorem run (ρ : Dev nD → PrngReg) : θ_run defs (onTc (τ := τ) (main (F := Ideal))) ⟨m, fun _ => 0, ρ⟩ (fun r => ∀ c : Dev nD,
      r.2.mem ((c.tc : Thread nD τ).loc main_v1) = RES0 m c ∧ r.2.mem ((c.tc : Thread nD τ).loc main_v2) = RES1 m c) :=
  (θ_run defs _ _).mono (fun _ h c => ⟨((h c).2 main_v1 (Pipeline.mem_restRefs_of main_v1 (by decide) (by decide))).trans (tail1 m c), ((h c).2 main_v2 (Pipeline.mem_restRefs_of main_v2 (by decide) (by decide))).trans (tail2 m c)⟩) (run_main m ρ)

end Cert.KernelIdeal.Val

end
-- ==== Proof.Stages.lean ====
module

public import proofs.«01_k».proof.Proof.Gen.ReferenceIdeal.Run
public import Idealize.ShloMosaic.Lib.Pointwise

@[expose] public section

set_option maxRecDepth 16384

noncomputable section

/-! The reference's operations, grouped into named stages over the arrays they read. -/

namespace Cert.ReferenceIdeal.Val

open Idealize.ShloMosaic Idealize.ShloMosaic.TcCoe Idealize.SL.Sem
open Cert.ReferenceIdeal Cert.ReferenceIdeal.Gen

/-- The row of the embedding table that each operation index selects, with negative indices counted from the end. -/
def IDX (op : IVec S16384 32) : IVec S16384x1 32 :=
  broadcastInDim S16384x1 ![0] bcast_S16384_S16384x1_0 (select (cmpi .slt op (broadcastInDim S16384 ![] bcast_S_S16384 (constantI S_ 32 0#32))) (addi op (broadcastInDim S16384 ![] bcast_S_S16384 (constantI S_ 32 8#32))) op)

/-- The features of every row: the embedding of its operation, the bits of its two operands, its carry. -/
def FEAT (op a b cc : IVec S16384 32) (E : FVec Ideal S8x32 .f32) : FVec Ideal S16384x49 .f32 :=
  (concatenate S16384x49 1 [⟨S16384x32, ((select (broadcastInDim S16384x32 ![0] bcast_S16384_S16384x32_0 (Host.reduce IntOp.andi (andi (cmpi .sge (IDX op) (broadcastInDim S16384x1 ![] bcast_S_S16384x1 (constantI S_ 32 0#32))) (cmpi .sle (IDX op) (broadcastInDim S16384x1 ![0, 1] bcast_S1x1_S16384x1_0_1 (broadcastInDim S1x1 ![1] bcast_S1_S1x1_1 (constantI S1 32 7#32))))) (constantI S_ 1 1#1) reducesTo_S16384x1_S16384_d1 h_S_)) (Host.gather gather_S8x32_S16384x1_S16384x32_1_0_n_n_0_1_132 E (IDX op)) (broadcastInDim S16384x32 ![] bcast_S_S16384x32 (constant S_ .f32 0x7FC00000#32))) : FVec Ideal S16384x32 .f32)⟩, ⟨S16384x8, ((sitofp .f32 ((concatenate S16384x8 1 [⟨S16384x1, ((broadcastInDim S16384x1 ![0] bcast_S16384_S16384x1_0 (andi (Host.shrsi a (broadcastInDim S16384 ![] bcast_S_S16384 (constantI S_ 32 0#32))) (broadcastInDim S16384 ![] bcast_S_S16384 (constantI S_ 32 1#32)))) : IVec S16384x1 32)⟩, ⟨S16384x1, ((broadcastInDim S16384x1 ![0] bcast_S16384_S16384x1_0 (andi (Host.shrsi a (broadcastInDim S16384 ![] bcast_S_S16384 (constantI S_ 32 1#32))) (broadcastInDim S16384 ![] bcast_S_S16384 (constantI S_ 32 1#32)))) : IVec S16384x1 32)⟩, ⟨S16384x1, ((broadcastInDim S16384x1 ![0] bcast_S16384_S16384x1_0 (andi (Host.shrsi a (broadcastInDim S16384 ![] bcast_S_S16384 (constantI S_ 32 2#32))) (broadcastInDim S16384 ![] bcast_S_S16384 (constantI S_ 32 1#32)))) : IVec S16384x1 32)⟩, ⟨S16384x1, ((broadcastInDim S16384x1 ![0] bcast_S16384_S16384x1_0 (andi (Host.shrsi a (broadcastInDim S16384 ![] bcast_S_S16384 (constantI S_ 32 3#32))) (broadcastInDim S16384 ![] bcast_S_S16384 (constantI S_ 32 1#32)))) : IVec S16384x1 32)⟩, ⟨S16384x1, ((broadcastInDim S16384x1 ![0] bcast_S16384_S16384x1_0 (andi (Host.shrsi a (broadcastInDim S16384 ![] bcast_S_S16384 (constantI S_ 32 4#32))) (broadcastInDim S16384 ![] bcast_S_S16384 (constantI S_ 32 1#32)))) : IVec S16384x1 32)⟩, ⟨S16384x1, ((broadcastInDim S16384x1 ![0] bcast_S16384_S16384x1_0 (andi (Host.shrsi a (broadcastInDim S16384 ![] bcast_S_S16384 (constantI S_ 32 5#32))) (broadcastInDim S16384 ![] bcast_S_S16384 (constantI S_ 32 1#32)))) : IVec S16384x1 32)⟩, ⟨S16384x1, ((broadcastInDim S16384x1 ![0] bcast_S16384_S16384x1_0 (andi (Host.shrsi a (broadcastInDim S16384 ![] bcast_S_S16384 (constantI S_ 32 6#32))) (broadcastInDim S16384 ![] bcast_S_S16384 (constantI S_ 32 1#32)))) : IVec S16384x1 32)⟩, ⟨S16384x1, ((broadcastInDim S16384x1 ![0] bcast_S16384_S16384x1_0 (andi (Host.shrsi a (broadcastInDim S16384 ![] bcast_S_S16384 (constantI S_ 32 7#32))) (broadcastInDim S16384 ![] bcast_S_S16384 (constantI S_ 32 1#32)))) : IVec S16384x1 32)⟩] concatenates_S16384x1_S16384x1_S16384x1_S16384x1_S16384x1_S16384x1_S16384x1_S16384x1_S16384x8_d1 : IVec S16384x8 32))) : FVec Ideal S16384x8 .f32)⟩, ⟨S16384x8, ((sitofp .f32 ((concatenate S16384x8 1 [⟨S16384x1, ((broadcastInDim S16384x1 ![0] bcast_S16384_S16384x1_0 (andi (Host.shrsi b (broadcastInDim S16384 ![] bcast_S_S16384 (constantI S_ 32 0#32))) (broadcastInDim S16384 ![] bcast_S_S16384 (constantI S_ 32 1#32)))) : IVec S16384x1 32)⟩, ⟨S16384x1, ((broadcastInDim S16384x1 ![0] bcast_S16384_S16384x1_0 (andi (Host.shrsi b (broadcastInDim S16384 ![] bcast_S_S16384 (constantI S_ 32 1#32))) (broadcastInDim S16384 ![] bcast_S_S16384 (constantI S_ 32 1#32)))) : IVec S16384x1 32)⟩, ⟨S16384x1, ((broadcastInDim S16384x1 ![0] bcast_S16384_S16384x1_0 (andi (Host.shrsi b (broadcastInDim S16384 ![] bcast_S_S16384 (constantI S_ 32 2#32))) (broadcastInDim S16384 ![] bcast_S_S16384 (constantI S_ 32 1#32)))) : IVec S16384x1 32)⟩, ⟨S16384x1, ((broadcastInDim S16384x1 ![0] bcast_S16384_S16384x1_0 (andi (Host.shrsi b (broadcastInDim S16384 ![] bcast_S_S16384 (constantI S_ 32 3#32))) (broadcastInDim S16384 ![] bcast_S_S16384 (constantI S_ 32 1#32)))) : IVec S16384x1 32)⟩, ⟨S16384x1, ((broadcastInDim S16384x1 ![0] bcast_S16384_S16384x1_0 (andi (Host.shrsi b (broadcastInDim S16384 ![] bcast_S_S16384 (constantI S_ 32 4#32))) (broadcastInDim S16384 ![] bcast_S_S16384 (constantI S_ 32 1#32)))) : IVec S16384x1 32)⟩, ⟨S16384x1, ((broadcastInDim S16384x1 ![0] bcast_S16384_S16384x1_0 (andi (Host.shrsi b (broadcastInDim S16384 ![] bcast_S_S16384 (constantI S_ 32 5#32))) (broadcastInDim S16384 ![] bcast_S_S16384 (constantI S_ 32 1#32)))) : IVec S16384x1 32)⟩, ⟨S16384x1, ((broadcastInDim S16384x1 ![0] bcast_S16384_S16384x1_0 (andi (Host.shrsi b (broadcastInDim S16384 ![] bcast_S_S16384 (constantI S_ 32 6#32))) (broadcastInDim S16384 ![] bcast_S_S16384 (constantI S_ 32 1#32)))) : IVec S16384x1 32)⟩, ⟨S16384x1, ((broadcastInDim S16384x1 ![0] bcast_S16384_S16384x1_0 (andi (Host.shrsi b (broadcastInDim S16384 ![] bcast_S_S16384 (constantI S_ 32 7#32))) (broadcastInDim S16384 ![] bcast_S_S16384 (constantI S_ 32 1#32)))) : IVec S16384x1 32)⟩] concatenates_S16384x1_S16384x1_S16384x1_S16384x1_S16384x1_S16384x1_S16384x1_S16384x1_S16384x8_d1 : IVec S16384x8 32))) : FVec Ideal S16384x8 .f32)⟩, ⟨S16384x1, ((sitofp .f32 (broadcastInDim S16384x1 ![0] bcast_S16384_S16384x1_0 cc)) : FVec Ideal S16384x1 .f32)⟩] concatenates_S16384x32_S16384x8_S16384x8_S16384x1_S16384x49_d1 : FVec Ideal S16384x49 .f32)

/-- The input projection of the features. -/
def X0R (ft : FVec Ideal S16384x49 .f32) (W : FVec Ideal S49x128 .f32) (bi : FVec Ideal S128 .f32) : FVec Ideal S16384x128 .f32 :=
  addf (Host.dotGeneral dot_S16384x49_S49x128_S16384x128_1_0_0_1_n_n none ft W) (broadcastInDim S16384x128 ![0, 1] bcast_S1x128_S16384x128_0_1 (broadcastInDim S1x128 ![1] bcast_S128_S1x128_1 bi))

/-- The mixer added to the projection. -/
def X1R (x : FVec Ideal S16384x128 .f32) (mix : FVec Ideal S128x128 .f32) (bm : FVec Ideal S128 .f32) : FVec Ideal S16384x1x128 .f32 :=
  broadcastInDim S16384x1x128 ![0, 2] bcast_S16384x128_S16384x1x128_0_2 (addf (addf x (Host.dotGeneral dot_S16384x128_S128x128_S16384x128_1_0_0_1_n_n none (Host.tanh x) mix)) (broadcastInDim S16384x128 ![0, 1] bcast_S1x128_S16384x128_0_1 (broadcastInDim S1x128 ![1] bcast_S128_S1x128_1 bm)))

/-- The signatures. -/
def TH (s : FVec Ideal S64x128 .f32) : FVec Ideal S64x128 .f32 :=
  Host.tanh s

/-- The scores of a layer. -/
def SC (x : FVec Ideal S16384x1x128 .f32) (t : FVec Ideal S64x128 .f32) : FVec Ideal S16384x1x64 .f32 :=
  Host.dotGeneral dot_S16384x1x128_S64x128_S16384x1x64_2_1_01_0_n_n none x t

/-- The exponentials of the scores below their largest. -/
def EX (sc : FVec Ideal S16384x1x64 .f32) : FVec Ideal S16384x1x64 .f32 :=
  Host.exp (subf sc (broadcastInDim S16384x1x64 ![0, 1, 2] bcast_S16384x1x1_S16384x1x64_0_1_2 (broadcastInDim S16384x1x1 ![0, 1] bcast_S16384x1_S16384x1x1_0_1 (maximumf (broadcastInDim S16384x1 ![] bcast_S_S16384x1 (constant S_ .f32 0xFF800000#32)) (Host.reduce FloatOps.maximumf sc (constant S_ .f32 0xFF800000#32) reducesTo_S16384x1x64_S16384x1_d2 h_S_)))))

/-- The probabilities of a layer. -/
def PR (e : FVec Ideal S16384x1x64 .f32) : FVec Ideal S16384x1x64 .f32 :=
  Host.divf e (broadcastInDim S16384x1x64 ![0, 1, 2] bcast_S16384x1x1_S16384x1x64_0_1_2 (broadcastInDim S16384x1x1 ![0, 1] bcast_S16384x1_S16384x1x1_0_1 (Host.reduceAdd e (constant S_ .f32 0x00000000#32) reducesTo_S16384x1x64_S16384x1_d2 h_S_)))

/-- The values of a layer added to its input. -/
def NX (x : FVec Ideal S16384x1x128 .f32) (p : FVec Ideal S16384x1x64 .f32) (v : FVec Ideal S64x128 .f32) : FVec Ideal S16384x1x128 .f32 :=
  addf x (Host.dotGeneral dot_S16384x1x64_S64x128_S16384x1x128_2_0_01_1_n_n none p v)

/-- The signatures divided by their lengths. -/
def SG (t : FVec Ideal S64x128 .f32) : FVec Ideal S64x128 .f32 :=
  Host.divf t (broadcastInDim S64x128 ![0, 1] bcast_S64x1_S64x128_0_1 (addf (Host.sqrt (broadcastInDim S64x1 ![0] bcast_S64_S64x1_0 (Host.reduceAdd (mulf t t) (constant S_ .f32 0x00000000#32) reducesTo_S64x128_S64_d1 h_S_))) (broadcastInDim S64x1 ![] bcast_S_S64x1 (constant S_ .f32 0x3089705F#32))))

/-- The head of the network. -/
def HEAD (x : FVec Ideal S16384x1x128 .f32) (w1 : FVec Ideal S128x64 .f32) (b1 : FVec Ideal S64 .f32) (w2 : FVec Ideal S64x8 .f32) (b2 : FVec Ideal S8 .f32) : FVec Ideal S16384x8 .f32 :=
  Host.divf (broadcastInDim S16384x8 ![] bcast_S_S16384x8 (constant S_ .f32 0x3F800000#32)) (addf (broadcastInDim S16384x8 ![] bcast_S_S16384x8 (constant S_ .f32 0x3F800000#32)) (Host.exp (Host.negf (addf (Host.dotGeneral dot_S16384x64_S64x8_S16384x8_1_0_0_1_n_n none (maximumf (addf (Host.dotGeneral dot_S16384x128_S128x64_S16384x64_1_0_0_1_n_n none (shapeCast S16384x128 x shapeCasts_S16384x1x128_S16384x128) w1) (broadcastInDim S16384x64 ![0, 1] bcast_S1x64_S16384x64_0_1 (broadcastInDim S1x64 ![1] bcast_S64_S1x64_1 b1))) (broadcastInDim S16384x64 ![] bcast_S_S16384x64 (constant S_ .f32 0x00000000#32))) w2) (broadcastInDim S16384x8 ![0, 1] bcast_S1x8_S16384x8_0_1 (broadcastInDim S1x8 ![1] bcast_S8_S1x8_1 b2))))))

/-- The first penalty of a layer. -/
def TERN (t : FVec Ideal S64x128 .f32) : FVec Ideal S_ .f32 :=
  (mulf (constant S_ .f32 0x3C23D70A#32) (Host.divf (Host.reduceAdd (mulf (Host.absf t) (subf (broadcastInDim S64x128 ![] bcast_S_S64x128 (constant S_ .f32 0x3F800000#32)) (Host.absf t))) (constant S_ .f32 0x00000000#32) reducesTo_S64x128_S_d0_1 h_S_) (constant S_ .f32 0x46000000#32)))

/-- The entropy penalty of a layer, at the logarithms it is taken of. -/
def ENT (p lg : FVec Ideal S16384x1x64 .f32) : FVec Ideal S_ .f32 :=
  (mulf (constant S_ .f32 0x3BA3D70A#32) (Host.negf (Host.divf (Host.reduceAdd (Host.reduceAdd (mulf p lg) (constant S_ .f32 0x00000000#32) reducesTo_S16384x1x64_S16384x1_d2 h_S_) (constant S_ .f32 0x00000000#32) reducesTo_S16384x1_S_d0_1 h_S_) (constant S_ .f32 0x46800000#32))))

/-- The last penalty of a layer. -/
def DIV (sg : FVec Ideal S64x128 .f32) : FVec Ideal S_ .f32 :=
  (mulf (constant S_ .f32 0x3C23D70A#32) (Host.divf (subf (Host.reduceAdd (Host.absf (Host.dotGeneral dot_S64x128_S128x64_S64x64_1_0_0_1_n_n none sg (transpose S128x64 [1, 0] sg transposes_S64x128_S128x64_1_0))) (constant S_ .f32 0x00000000#32) reducesTo_S64x64_S_d0_1 h_S_) (constant S_ .f32 0x42800000#32)) (constant S_ .f32 0x457C0000#32)))

/-- The penalties of the two layers added. -/
def TOT (t0 e0 d0 t1 e1 d1 : FVec Ideal S_ .f32) : FVec Ideal S_ .f32 :=
  addf (addf (constant S_ .f32 0x00000000#32) (addf (addf t0 e0) d0)) (addf (addf t1 e1) d1)

end Cert.ReferenceIdeal.Val

end
-- ==== Proof.Spec.lean ====
module

public import Idealize.ShloMosaic.Lib.Pointwise
public import Idealize.ShloMosaic.Lib.ValueIdxCore
public import Idealize.ShloMosaic.PureOps.Ideal

@[expose] public section

set_option maxRecDepth 16384

noncomputable section

namespace Cert.Alu

open Idealize.ShloMosaic

/-- A finite sum of reals, read among the extended reals, is the sum of the readings. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The hyperbolic tangent is real, and at most one in absolute value, at every extended real. -/
theorem tanh_real (x : EReal) : ∃ r : ℝ, Ideal.tanh x = (r : EReal) ∧ |r| ≤ 1 := by
  induction x using EReal.rec with
  | bot => exact ⟨-1, by simp, by simp⟩
  | top => exact ⟨1, by simp, by simp⟩
  | coe r => exact ⟨Real.tanh r, by simp, abs_le.2 ⟨(Real.neg_one_lt_tanh r).le, (Real.tanh_lt_one r).le⟩⟩

/-- The hyperbolic tangent as a real number. -/
def thr (x : EReal) : ℝ := (Ideal.tanh x).toReal

/-- The hyperbolic tangent is its real number. -/
theorem tanh_eq (x : EReal) : Ideal.tanh x = (thr x : EReal) := by
  obtain ⟨r, h, -⟩ := tanh_real x
  rw [thr, h, EReal.toReal_coe]

/-- Its absolute value is at most one. -/
theorem abs_thr (x : EReal) : |thr x| ≤ 1 := by
  obtain ⟨r, h, hr⟩ := tanh_real x
  rwa [thr, h, EReal.toReal_coe]

/-- The largest of the scores, as a real number. -/
def mx (f : Fin 64 → ℝ) : ℝ := (Finset.univ.fold max (⊥ : EReal) fun i => (f i : EReal)).toReal

/-- The fold of the maximum from minus infinity is the largest score. -/
theorem fold_max (f : Fin 64 → ℝ) : (Finset.univ.fold max (⊥ : EReal) fun i => (f i : EReal)) = (mx f : EReal) := by
  obtain ⟨i, -, hi⟩ := Finset.exists_mem_eq_sup Finset.univ Finset.univ_nonempty fun i => (f i : EReal)
  have h : (Finset.univ.fold max (⊥ : EReal) fun i => (f i : EReal)) = (f i : EReal) := hi
  rw [mx, h, EReal.toReal_coe]

/-- The exponential of a score below the largest. -/
def ex (s : Fin 64 → ℝ) (t : Fin 64) : ℝ := Real.exp (s t - mx s)
/-- The sum of the exponentials. -/
def tot (s : Fin 64 → ℝ) : ℝ := ∑ t, ex s t
/-- The probabilities. -/
def pr (s : Fin 64 → ℝ) (t : Fin 64) : ℝ := ex s t / tot s
/-- The sum of the probabilities times their logarithms. -/
def ent (s : Fin 64 → ℝ) : ℝ := ∑ t, pr s t * Real.log (pr s t)

/-- The exponentials are positive. -/
theorem ex_pos (s : Fin 64 → ℝ) (t : Fin 64) : 0 < ex s t := Real.exp_pos _
/-- Their total is positive. -/
theorem tot_pos (s : Fin 64 → ℝ) : 0 < tot s := Finset.sum_pos (fun t _ => ex_pos s t) Finset.univ_nonempty
/-- The probabilities are positive. -/
theorem pr_pos (s : Fin 64 → ℝ) (t : Fin 64) : 0 < pr s t := div_pos (ex_pos s t) (tot_pos s)

/-- The kernel's way of writing the sum of the probabilities times their logarithms. -/
theorem ent_eq (s : Fin 64 → ℝ) : (∑ t, ex s t * (s t - mx s)) * (1 / tot s) - Real.log (tot s) = ent s := by
  have h1 : ∀ t, Real.log (pr s t) = (s t - mx s) - Real.log (tot s) := fun t => by
    rw [pr, Real.log_div (ex_pos s t).ne' (tot_pos s).ne', ex, Real.log_exp]
  have h2 : ∑ t, pr s t = 1 := by
    simp only [pr]; rw [← Finset.sum_div]; exact div_self (tot_pos s).ne'
  have h3 : ∀ t, pr s t * Real.log (pr s t) = ex s t * (s t - mx s) * (1 / tot s) - pr s t * Real.log (tot s) := fun t => by
    rw [h1, pr]; ring
  simp only [ent, h3]
  rw [Finset.sum_sub_distrib, ← Finset.sum_mul, ← Finset.sum_mul, h2, one_mul]

/-- With a small number added inside the logarithm, the sum grows by at most sixty-four times that number. -/
theorem ent_eps (s : Fin 64 → ℝ) (e : ℝ) (he : 0 ≤ e) :
    0 ≤ (∑ t, pr s t * Real.log (pr s t + e)) - ent s ∧ (∑ t, pr s t * Real.log (pr s t + e)) - ent s ≤ 64 * e := by
  rw [ent, ← Finset.sum_sub_distrib]
  have h : ∀ t, 0 ≤ pr s t * Real.log (pr s t + e) - pr s t * Real.log (pr s t)
      ∧ pr s t * Real.log (pr s t + e) - pr s t * Real.log (pr s t) ≤ e := fun t => by
    have hp := pr_pos s t
    have h1 : Real.log (pr s t) ≤ Real.log (pr s t + e) := Real.log_le_log hp (by linarith)
    have h2 : Real.log (pr s t + e) - Real.log (pr s t) ≤ e / pr s t := by
      rw [← Real.log_div (by positivity) hp.ne']
      have h3 : (pr s t + e) / pr s t = 1 + e / pr s t := by field_simp
      rw [h3]
      have h4 := Real.log_le_sub_one_of_pos (show 0 < 1 + e / pr s t by positivity)
      linarith
    rw [← mul_sub]
    refine ⟨mul_nonneg hp.le (by linarith), ?_⟩
    calc pr s t * (Real.log (pr s t + e) - Real.log (pr s t)) ≤ pr s t * (e / pr s t) := mul_le_mul_of_nonneg_left h2 hp.le
      _ = e := by field_simp
  refine ⟨Finset.sum_nonneg fun t _ => (h t).1, (Finset.sum_le_sum fun t _ => (h t).2).trans ?_⟩
  simp

/-! The network over the reals: every array is a real-valued function of its indices. -/

/-- A bit as a real number. -/
def bitR (w : BitVec 32) (i : Nat) : ℝ := if w.getLsbD i then 1 else 0
/-- The number of an operation. -/
def opn (w : BitVec 32) : Fin 8 := ⟨w.toNat % 8, Nat.mod_lt _ (by decide)⟩

/-- The input projection of one row. -/
def x0 (op a b c : BitVec 32) (E : Fin 8 → Fin 32 → ℝ) (W : Fin 49 → Fin 128 → ℝ) (d : Fin 128) : ℝ :=
  (∑ k : Fin 32, E (opn op) k * W ⟨k.val, by omega⟩ d)
    + ((∑ i : Fin 8, W ⟨32 + i.val, by omega⟩ d * bitR a i.val)
      + ((∑ i : Fin 8, W ⟨40 + i.val, by omega⟩ d * bitR b i.val) + W ⟨48, by omega⟩ d * bitR c 0))

/-- The mixer added to the projection. -/
def x1 (x : Fin 128 → ℝ) (w : Fin 128 → Fin 128 → ℝ) (d : Fin 128) : ℝ := x d + ∑ k, Real.tanh (x k) * w k d
/-- The scores of a row. -/
def sc (x : Fin 128 → ℝ) (s : Fin 64 → Fin 128 → EReal) (t : Fin 64) : ℝ := ∑ k, x k * thr (s t k)
/-- The values added to a row. -/
def x2 (x : Fin 128 → ℝ) (s : Fin 64 → Fin 128 → EReal) (v : Fin 64 → Fin 128 → ℝ) (d : Fin 128) : ℝ :=
  x d + ∑ t, pr (sc x s) t * v t d

/-- The first penalty of a layer's signatures. -/
def tern (s : Fin 64 → Fin 128 → EReal) : EReal :=
  Ideal.ofBits .f32 0x3C23D70A#32 * Ideal.div (∑ x, ∑ k, FloatOps.absf (F := Ideal) (φ := .f32) (Ideal.tanh (s x k)) * (1 - FloatOps.absf (F := Ideal) (φ := .f32) (Ideal.tanh (s x k)))) (Ideal.ofBits .f32 0x46000000#32)
/-- A signature's entry divided by the signature's length. -/
def sgn (s : Fin 64 → Fin 128 → EReal) (x : Fin 64) (k : Fin 128) : EReal :=
  Ideal.div (Ideal.tanh (s x k)) (Ideal.sqrt (∑ j, Ideal.tanh (s x j) * Ideal.tanh (s x j)) + Ideal.ofBits .f32 0x3089705F#32)
/-- The last penalty of a layer's signatures. -/
def divp (s : Fin 64 → Fin 128 → EReal) : EReal :=
  Ideal.ofBits .f32 0x3C23D70A#32 * Ideal.div ((∑ x, ∑ y, FloatOps.absf (F := Ideal) (φ := .f32) (∑ k, sgn s x k * sgn s y k)) - Ideal.ofBits .f32 0x42800000#32) (Ideal.ofBits .f32 0x457C0000#32)

/-- The head of one row, over the second layer's input and probabilities. -/
def head (y : Fin 128 → ℝ) (p : Fin 64 → ℝ) (v : Fin 64 → Fin 128 → EReal) (w1 : Fin 128 → Fin 64 → EReal) (w2 : Fin 64 → Fin 8 → EReal) (d : Fin 8) : EReal :=
  Ideal.logistic (∑ h, w2 h d * max (∑ k, w1 k h * ((y k : EReal) + ∑ t, v t k * (p t : EReal))) 0)

/-! Extended reals that are real. -/

theorem ninf : Ideal.ofBits .f32 0xFF800000#32 = ⊥ := by simp [Ideal.ofBits, Ideal.ieee]

/-- One over the total of the exponentials. -/
theorem one_div_tot (s : Fin 64 → ℝ) : Ideal.div 1 (tot s : EReal) = ((1 / tot s : ℝ) : EReal) := by
  rw [Ideal.div_coe (tot_pos s).ne', one_mul]

/-- Division by the total of the exponentials. -/
theorem div_tot (s : Fin 64 → ℝ) (x : ℝ) : Ideal.div (x : EReal) (tot s : EReal) = ((x / tot s : ℝ) : EReal) := by
  rw [Ideal.div_coe (tot_pos s).ne', ← EReal.coe_mul]; congr 1; ring

/-- The logarithm of the total. -/
theorem log_tot (s : Fin 64 → ℝ) : Ideal.log (tot s : EReal) = (Real.log (tot s) : EReal) := by
  rw [Ideal.log_coe, if_neg (not_le.2 (tot_pos s))]

/-! The constants. -/

theorem c005 : Ideal.ofBits .f32 0x3BA3D70A#32 = ((10737418 / 2 ^ 31 : ℝ) : EReal) := by
  simp [Ideal.ofBits, Ideal.ieee]; norm_num; rw [← EReal.coe_mul]; congr 1; norm_num
/-- The kernel's factor of the entropies, as a real number. -/
theorem cneg : Ideal.ofBits .f32 0xB4A3D70A#32 = ((-(10737418 / 2 ^ 31) / 16384 : ℝ) : EReal) := by
  simp [Ideal.ofBits, Ideal.ieee]; norm_num; rw [← EReal.coe_mul]; congr 1; norm_num
/-- The number of rows. -/
theorem crows : Ideal.ofBits .f32 0x46800000#32 = ((16384 : ℝ) : EReal) := by
  simp [Ideal.ofBits, Ideal.ieee]; norm_num; rw [← EReal.coe_mul]; congr 1; norm_num
/-- The small constant inside the logarithms, as a real number. -/
theorem ceps : Ideal.ofBits .f32 0x3089705F#32 = ((9007199 / 2 ^ 53 : ℝ) : EReal) := by
  simp [Ideal.ofBits, Ideal.ieee]; norm_num; rw [← EReal.coe_mul]; congr 1; norm_num
/-- The penalties' factor, as a real number. -/
theorem c001 : Ideal.ofBits .f32 0x3C23D70A#32 = ((10737418 / 2 ^ 30 : ℝ) : EReal) := by
  simp [Ideal.ofBits, Ideal.ieee]; norm_num; rw [← EReal.coe_mul]; congr 1; norm_num
/-- The number of a table's entries. -/
theorem c8192 : Ideal.ofBits .f32 0x46000000#32 = ((8192 : ℝ) : EReal) := by
  simp [Ideal.ofBits, Ideal.ieee]; norm_num; rw [← EReal.coe_mul]; congr 1; norm_num
/-- The number of signatures. -/
theorem c64 : Ideal.ofBits .f32 0x42800000#32 = ((64 : ℝ) : EReal) := by
  simp [Ideal.ofBits, Ideal.ieee]; norm_num; rw [← EReal.coe_mul]; congr 1; norm_num
/-- The number of pairs of different signatures. -/
theorem c4032 : Ideal.ofBits .f32 0x457C0000#32 = ((4032 : ℝ) : EReal) := by
  simp [Ideal.ofBits, Ideal.ieee]; norm_num; rw [← EReal.coe_mul]; congr 1; norm_num

/-- The second result, over the sum of the rows' entropy terms. -/
def aux (l : ℝ) (s0 s1 : Fin 64 → Fin 128 → EReal) : EReal :=
  ((-(10737418 / 2 ^ 31) / 16384 * l : ℝ) : EReal) + (tern s0 + divp s0 + tern s1 + divp s1)

/-- The entropy terms of one row, with a number added inside the logarithms. -/
def ente (e : ℝ) (s : Fin 64 → ℝ) : ℝ := ∑ t, pr s t * Real.log (pr s t + e)

/-- With nothing added inside, the entropy terms are the entropy's. -/
theorem ente_zero (s : Fin 64 → ℝ) : ente 0 s = ent s := by simp [ente, ent]

/-- The absolute value of a real. -/
theorem absf_coe (x : ℝ) : FloatOps.absf (F := Ideal) (φ := .f32) (x : EReal) = ((|x| : ℝ) : EReal) := by
  show max (x : EReal) (-(x : EReal)) = _
  rw [← EReal.coe_neg, abs_eq_max_neg, EReal.coe_strictMono.monotone.map_max]

/-- The first penalty is real. -/
theorem tern_real (s : Fin 64 → Fin 128 → EReal) : ∃ t : ℝ, tern s = (t : EReal) := by
  unfold tern
  rw [c001, c8192, Ideal.div_coe (by norm_num)]
  simp only [tanh_eq, absf_coe, ← EReal.coe_one, ← EReal.coe_mul, ← EReal.coe_sub, ← coe_sum]
  exact ⟨_, rfl⟩

/-- A signature's entry over its length is real. -/
theorem sgn_real (s : Fin 64 → Fin 128 → EReal) (x : Fin 64) (k : Fin 128) : ∃ t : ℝ, sgn s x k = (t : EReal) := by
  have h : 0 ≤ ∑ j, thr (s x j) * thr (s x j) := Finset.sum_nonneg fun j _ => mul_self_nonneg _
  have h' : Real.sqrt (∑ j, thr (s x j) * thr (s x j)) + 9007199 / 2 ^ 53 ≠ 0 := by positivity
  unfold sgn
  rw [ceps]
  simp only [tanh_eq, ← EReal.coe_mul, ← coe_sum]
  rw [Ideal.sqrt_coe, if_neg (not_lt.2 h), ← EReal.coe_add, Ideal.div_coe h', ← EReal.coe_mul]
  exact ⟨_, rfl⟩

/-- The last penalty is real. -/
theorem divp_real (s : Fin 64 → Fin 128 → EReal) : ∃ t : ℝ, divp s = (t : EReal) := by
  choose g hg using sgn_real s
  unfold divp
  rw [c001, c64, c4032, Ideal.div_coe (by norm_num)]
  simp only [hg, absf_coe, ← EReal.coe_mul, ← EReal.coe_sub, ← coe_sum]
  exact ⟨_, rfl⟩

/-- The second result is real, and changes with the sum of the entropy terms only. -/
theorem aux_real (s0 s1 : Fin 64 → Fin 128 → EReal) :
    ∃ t : ℝ, ∀ l : ℝ, aux l s0 s1 = ((-(10737418 / 2 ^ 31) / 16384 * l + t : ℝ) : EReal) := by
  obtain ⟨a, ha⟩ := tern_real s0
  obtain ⟨b, hb⟩ := divp_real s0
  obtain ⟨c, hc⟩ := tern_real s1
  obtain ⟨d, hd⟩ := divp_real s1
  refine ⟨a + b + c + d, fun l => ?_⟩
  unfold aux
  rw [ha, hb, hc, hd]
  simp only [← EReal.coe_add]

/-- One layer's entropy penalty in the reference's order of operations. -/
theorem ent_pen (l : ℝ) : Ideal.ofBits .f32 0x3BA3D70A#32 * -Ideal.div (l : EReal) (Ideal.ofBits .f32 0x46800000#32)
    = ((-(10737418 / 2 ^ 31) / 16384 * l : ℝ) : EReal) := by
  rw [c005, crows, Ideal.div_coe (by norm_num), ← EReal.coe_mul, ← EReal.coe_neg, ← EReal.coe_mul]
  congr 1; ring

/-- The reference's total. -/
theorem aux_eq (l0 l1 : ℝ) (s0 s1 : Fin 64 → Fin 128 → EReal) :
    tern s0 + ((-(10737418 / 2 ^ 31) / 16384 * l0 : ℝ) : EReal) + divp s0 + (tern s1 + ((-(10737418 / 2 ^ 31) / 16384 * l1 : ℝ) : EReal) + divp s1)
      = aux (l0 + l1) s0 s1 := by
  unfold aux
  rw [mul_add, EReal.coe_add]
  ac_rfl

/-! The operation's number as an index. -/

/-- An operation's number is not negative, and at most seven. -/
theorem idx_lt (w : BitVec 32) (h : w.toNat < 8) :
    Scalar.select (IntOp.cmpi .slt w 0#32) (IntOp.addi w 8#32) w = w ∧ IntOp.andi (IntOp.cmpi .sge w 0#32) (IntOp.cmpi .sle w 7#32) = 1#1 := by
  have e : w = BitVec.ofNat 32 w.toNat := by simp
  generalize w.toNat = n at h e
  subst e
  interval_cases n <;> decide

/-- An operation index in range is the word of its number. -/
theorem idx_opn (w : BitVec 32) (h : w.toNat < 8) : w = BitVec.ofNat 32 (opn w).val := by
  refine BitVec.eq_of_toNat_eq ?_
  rw [opn, BitVec.toNat_ofNat]
  show w.toNat = w.toNat % 8 % 2 ^ 32
  omega

/-! Bits of words. -/

/-- The lowest bit of a shifted word, as an extended real, is the bit at the shift. -/
theorem sitofp_bit (u : ArithUnit) (w : BitVec 32) (j : Nat) (hj : j < 32) :
    FloatOps.sitofp (F := Ideal) .f32 (IntOp.andi (IntOp.shrsi u w (BitVec.ofNat 32 j)) 1#32) = (bitR w j : EReal) := by
  have hn : (BitVec.ofNat 32 j).toNat = j := by rw [BitVec.toNat_ofNat]; omega
  have h : IntOp.andi (IntOp.shrsi u w (BitVec.ofNat 32 j)) 1#32 = if w.getLsbD j then 1#32 else 0#32 := by
    unfold IntOp.andi IntOp.shrsi
    rw [if_pos (by rw [hn]; exact hj), BitVec.sshiftRight', hn]
    refine BitVec.eq_of_getLsbD_eq fun i hi => ?_
    rw [BitVec.getLsbD_and, BitVec.getLsbD_sshiftRight, BitVec.getLsbD_one]
    by_cases h0 : i = 0
    · subst h0
      simp only [Nat.add_zero, hj, if_true]
      cases w.getLsbD j <;> simp
    · cases w.getLsbD j <;> simp [h0, BitVec.getLsbD_one]
  rw [h, bitR]
  show (((if w.getLsbD j then 1#32 else 0#32 : BitVec 32).toInt : ℝ) : EReal) = _
  cases w.getLsbD j <;> simp

/-- A word below two hundred and fifty-six has no bit from the eighth on. -/
theorem bit_high (w : BitVec 32) (h : w.toNat < 256) (i : Nat) (hi : 8 ≤ i) : w.getLsbD i = false := by
  rw [← BitVec.testBit_toNat]
  exact Nat.testBit_lt_two_pow (lt_of_lt_of_le h (Nat.pow_le_pow_right (by decide) hi : 2 ^ 8 ≤ 2 ^ i))

/-- The kernel's packed word of one row. -/
def word (op a b c : BitVec 32) : BitVec 32 :=
  IntOp.ori (IntOp.ori (IntOp.ori (IntOp.shli .vector 1#32 op) (IntOp.shli .vector a 8#32)) (IntOp.shli .vector b 16#32)) (IntOp.shli .vector c 24#32)

/-- The bits of the packed word. -/
theorem word_bit (op a b c : BitVec 32) (ho : op.toNat < 8) (j : Nat) (hj : j < 32) :
    (word op a b c).getLsbD j = (decide (j = op.toNat) || (decide (8 ≤ j) && a.getLsbD (j - 8)) || (decide (16 ≤ j) && b.getLsbD (j - 16))
      || (decide (24 ≤ j) && c.getLsbD (j - 24))) := by
  unfold word IntOp.ori IntOp.shli
  rw [if_pos (by omega), if_pos (by decide), if_pos (by decide), if_pos (by decide)]
  simp only [BitVec.getLsbD_or, BitVec.shiftLeft_eq', BitVec.getLsbD_shiftLeft, BitVec.getLsbD_one, hj, BitVec.toNat_ofNat]
  have e : (!decide (j < op.toNat) && decide (j - op.toNat = 0)) = decide (j = op.toNat) := by
    by_cases h : j = op.toNat
    · simp [h]
    · by_cases h' : j < op.toNat
      · simp [h, h']
      · have : j - op.toNat ≠ 0 := by omega
        simp [h, this]
  have n : ∀ k, (!decide (j < k)) = decide (k ≤ j) := fun k => by
    by_cases h : j < k
    · simp [h, not_le.2 h]
    · simp [h, not_lt.1 h]
  simp only [← n]
  rw [← e]
  simp

/-- The low byte of the packed word holds the one-hot bit of the operation. -/
theorem word0 (op a b c : BitVec 32) (ho : op.toNat < 8) (j : Fin 8) :
    bitR (word op a b c) j.val = if opn op = j then 1 else 0 := by
  have hj := j.isLt
  rw [bitR, word_bit op a b c ho _ (by omega)]
  have h1 : ¬ 8 ≤ j.val := by omega
  have h2 : ¬ 16 ≤ j.val := by omega
  have h3 : ¬ 24 ≤ j.val := by omega
  have h4 : (opn op = j) ↔ j.val = op.toNat := by
    rw [Fin.ext_iff, opn]; simp only [Nat.mod_eq_of_lt ho]; exact eq_comm
  simp [h1, h2, h3, h4]

/-- The second byte of the packed word holds the first operand. -/
theorem word1 (op a b c : BitVec 32) (ho : op.toNat < 8) (i : Nat) (hi : i < 8) :
    bitR (word op a b c) (8 + i) = bitR a i := by
  rw [bitR, word_bit op a b c ho _ (by omega), bitR]
  have h0 : ¬ 8 + i = op.toNat := by omega
  have h2 : ¬ 16 ≤ 8 + i := by omega
  have h3 : ¬ 24 ≤ 8 + i := by omega
  simp [h0, h2, h3]

/-- The third byte of the packed word holds the second operand. -/
theorem word2 (op a b c : BitVec 32) (ho : op.toNat < 8) (ha : a.toNat < 256) (i : Nat) (hi : i < 8) :
    bitR (word op a b c) (16 + i) = bitR b i := by
  rw [bitR, word_bit op a b c ho _ (by omega), bitR, bit_high a ha _ (by omega)]
  have h0 : ¬ 16 + i = op.toNat := by omega
  have h3 : ¬ 24 ≤ 16 + i := by omega
  simp [h0, h3]

/-- The top byte of the packed word holds the carry. -/
theorem word3 (op a b c : BitVec 32) (ho : op.toNat < 8) (ha : a.toNat < 256) (hb : b.toNat < 256) :
    bitR (word op a b c) 24 = bitR c 0 := by
  rw [bitR, word_bit op a b c ho _ (by omega), bitR, bit_high a ha _ (by omega), bit_high b hb _ (by omega)]
  have h0 : ¬ 24 = op.toNat := by omega
  simp [h0]

/-- A carry below two is its lowest bit. -/
theorem carry (c : BitVec 32) (h : c.toNat < 2) : FloatOps.sitofp (F := Ideal) .f32 c = (bitR c 0 : EReal) := by
  have : c = 0#32 ∨ c = 1#32 := by
    have : c.toNat = 0 ∨ c.toNat = 1 := by omega
    rcases this with h | h
    · exact Or.inl (BitVec.eq_of_toNat_eq h)
    · exact Or.inr (BitVec.eq_of_toNat_eq h)
  show ((c.toInt : ℝ) : EReal) = _
  rcases this with rfl | rfl <;> simp [bitR]

/-- The sum over the packed word's thirty-two positions is the input projection. -/
theorem word_sum (op a b c : BitVec 32) (ho : op.toNat < 8) (ha : a.toNat < 256) (hb : b.toNat < 256)
    (E : Fin 8 → Fin 32 → ℝ) (W : Fin 49 → Fin 128 → ℝ) (d : Fin 128) (g : Fin 32 → EReal)
    (h0 : ∀ i : Fin 8, g ⟨i.val, by omega⟩ = ((∑ k : Fin 32, E i k * W ⟨k.val, by omega⟩ d : ℝ) : EReal))
    (h1 : ∀ i : Fin 8, g ⟨8 + i.val, by omega⟩ = (W ⟨32 + i.val, by omega⟩ d : EReal))
    (h2 : ∀ i : Fin 8, g ⟨16 + i.val, by omega⟩ = (W ⟨40 + i.val, by omega⟩ d : EReal))
    (h3 : g ⟨24, by decide⟩ = (W ⟨48, by omega⟩ d : EReal))
    (h4 : ∀ i : Fin 7, g ⟨25 + i.val, by omega⟩ = 0) :
    ∑ j : Fin 32, g j * (bitR (word op a b c) j.val : EReal) = (x0 op a b c E W d : EReal) := by
  have e : ∀ f : Fin 32 → EReal, ∑ j, f j = (∑ i : Fin 8, f ⟨i.val, by omega⟩) + ((∑ i : Fin 8, f ⟨8 + i.val, by omega⟩)
      + ((∑ i : Fin 8, f ⟨16 + i.val, by omega⟩) + (f ⟨24, by decide⟩ + ∑ i : Fin 7, f ⟨25 + i.val, by omega⟩))) := fun f => by
    simp only [Fin.sum_univ_succ, Fin.sum_univ_zero, add_zero, add_assoc]
    rfl
  rw [e, x0]
  simp only [h0, h1, h2, h3, h4, word0 op a b c ho, word1 op a b c ho _ (Fin.isLt _), word2 op a b c ho ha _ (Fin.isLt _),
    word3 op a b c ho ha hb, zero_mul, Finset.sum_const_zero, add_zero, ← EReal.coe_mul, ← coe_sum, ← EReal.coe_add]
  congr 2
  simp

end Cert.Alu

end
-- ==== Proof.RFeat.lean ====
module

public import proofs.«01_k».proof.Proof.Stages
public import proofs.«01_k».proof.Proof.Spec
public import Idealize.ShloMosaic.Lib.Routing.Ops

@[expose] public section

set_option maxRecDepth 16384

noncomputable section

namespace Cert.ReferenceIdeal.Val

open Idealize.ShloMosaic Idealize.ShloMosaic.TcCoe Idealize.SL.Sem
open Cert.ReferenceIdeal Cert.ReferenceIdeal.Gen

/-- The operation's number as the gather reads it. -/
theorem IDX_at (op : IVec S16384 32) (r : Fin 16384) :
    IDX op (ix2 r 0 : S16384x1.Idx) = Scalar.select (IntOp.cmpi .slt (op (ix1 r)) 0#32) (IntOp.addi (op (ix1 r)) 8#32) (op (ix1 r)) := by
  pointwise [IDX]

/-- The embedding's columns of the features. -/
theorem FEAT_e (op a b cc : IVec S16384 32) (E : FVec Ideal S8x32 .f32) (r : Fin 16384) (k : Fin 32) :
    FEAT op a b cc E (ix2 r ⟨k.val, by omega⟩ : S16384x49.Idx)
      = Scalar.select (IntOp.andi (IntOp.cmpi .sge (IDX op (ix2 r 0)) 0#32) (IntOp.cmpi .sle (IDX op (ix2 r 0)) 7#32))
          (Host.gather gather_S8x32_S16384x1_S16384x32_1_0_n_n_0_1_132 E (IDX op) (ix2 r k)) (Ideal.ofBits .f32 0x7FC00000#32) := by
  have h : ∀ z : BitVec 1, IntOp.andi z 1#1 = z := by decide
  pointwise [FEAT]
  rw [show (Finset.univ : Finset (Fin 1)) = {0} from rfl, Finset.fold_singleton, h]

/-- The first operand's bits among the features. -/
theorem FEAT_a (op a b cc : IVec S16384 32) (E : FVec Ideal S8x32 .f32) (r : Fin 16384) (i : Fin 8) :
    FEAT op a b cc E (ix2 r ⟨32 + i.val, by omega⟩ : S16384x49.Idx) = FloatOps.sitofp (F := Ideal) .f32 (IntOp.andi (IntOp.shrsi .host (a (ix1 r)) (BitVec.ofNat 32 i.val)) 1#32) := by
  match i with
  | ⟨0, _⟩ => pointwise [FEAT]
  | ⟨1, _⟩ => pointwise [FEAT]
  | ⟨2, _⟩ => pointwise [FEAT]
  | ⟨3, _⟩ => pointwise [FEAT]
  | ⟨4, _⟩ => pointwise [FEAT]
  | ⟨5, _⟩ => pointwise [FEAT]
  | ⟨6, _⟩ => pointwise [FEAT]
  | ⟨7, _⟩ => pointwise [FEAT]

/-- The second operand's bits among the features. -/
theorem FEAT_b (op a b cc : IVec S16384 32) (E : FVec Ideal S8x32 .f32) (r : Fin 16384) (i : Fin 8) :
    FEAT op a b cc E (ix2 r ⟨40 + i.val, by omega⟩ : S16384x49.Idx) = FloatOps.sitofp (F := Ideal) .f32 (IntOp.andi (IntOp.shrsi .host (b (ix1 r)) (BitVec.ofNat 32 i.val)) 1#32) := by
  match i with
  | ⟨0, _⟩ => pointwise [FEAT]
  | ⟨1, _⟩ => pointwise [FEAT]
  | ⟨2, _⟩ => pointwise [FEAT]
  | ⟨3, _⟩ => pointwise [FEAT]
  | ⟨4, _⟩ => pointwise [FEAT]
  | ⟨5, _⟩ => pointwise [FEAT]
  | ⟨6, _⟩ => pointwise [FEAT]
  | ⟨7, _⟩ => pointwise [FEAT]

/-- The carry among the features. -/
theorem FEAT_c (op a b cc : IVec S16384 32) (E : FVec Ideal S8x32 .f32) (r : Fin 16384) :
    FEAT op a b cc E (ix2 r ⟨48, by decide⟩ : S16384x49.Idx) = FloatOps.sitofp (F := Ideal) .f32 (cc (ix1 r)) := by
  pointwise [FEAT]
/-- The entropy penalty. -/
theorem ENT_at (p lg : FVec Ideal S16384x1x64 .f32) :
    ENT p lg ix0 = Ideal.ofBits .f32 0x3BA3D70A#32 * -Ideal.div (∑ r : Fin 16384, ∑ t : Fin 64, p (ix3 r 0 t) * lg (ix3 r 0 t)) (Ideal.ofBits .f32 0x46800000#32) := by
  pointwise [ENT]
  exact congrArg (fun z : EReal => Ideal.ofBits .f32 0x3BA3D70A#32 * -Ideal.div z (Ideal.ofBits .f32 0x46800000#32)) (Finset.sum_congr rfl fun r _ => Fin.sum_univ_one _)

end Cert.ReferenceIdeal.Val

end
-- ==== Proof.RReads.lean ====
module

public import proofs.«01_k».proof.Proof.Stages
public import proofs.«01_k».proof.Proof.Spec
public import Idealize.ShloMosaic.Lib.Routing.Ops

@[expose] public section

set_option maxRecDepth 16384

noncomputable section

namespace Cert.ReferenceIdeal.Val

open Idealize.ShloMosaic Idealize.ShloMosaic.TcCoe Idealize.SL.Sem
open Cert.ReferenceIdeal Cert.ReferenceIdeal.Gen

/-- The projection's entry. -/
theorem X0R_at (ft : FVec Ideal S16384x49 .f32) (W : FVec Ideal S49x128 .f32) (bi : FVec Ideal S128 .f32) (r : Fin 16384) (k : Fin 128) :
    X0R ft W bi (ix2 r k : S16384x128.Idx) = ∑ j : Fin 49, ft (ix2 r j) * W (ix2 j k) + bi (ix1 k) := by
  pointwise [X0R]
/-- The mixed entry. -/
theorem X1R_at (x : FVec Ideal S16384x128 .f32) (mix : FVec Ideal S128x128 .f32) (bm : FVec Ideal S128 .f32) (r : Fin 16384) (k : Fin 128) :
    X1R x mix bm (ix3 r 0 k : S16384x1x128.Idx) = x (ix2 r k) + ∑ j : Fin 128, Ideal.tanh (x (ix2 r j)) * mix (ix2 j k) + bm (ix1 k) := by
  pointwise [X1R]
/-- A score. -/
theorem SC_at (x : FVec Ideal S16384x1x128 .f32) (t : FVec Ideal S64x128 .f32) (r : Fin 16384) (k : Fin 64) :
    SC x t (ix3 r 0 k : S16384x1x64.Idx) = ∑ d : Fin 128, x (ix3 r 0 d) * t (ix2 k d) := by
  pointwise [SC]
/-- An exponential. -/
theorem EX_at (sc : FVec Ideal S16384x1x64 .f32) (r : Fin 16384) (k : Fin 64) :
    EX sc (ix3 r 0 k : S16384x1x64.Idx) = Ideal.exp (sc (ix3 r 0 k) - max (Ideal.ofBits .f32 0xFF800000#32) (Finset.fold max (Ideal.ofBits .f32 0xFF800000#32) (fun t : Fin 64 => sc (ix3 r 0 t)) Finset.univ)) := by
  pointwise [EX]
/-- A probability. -/
theorem PR_at (e : FVec Ideal S16384x1x64 .f32) (r : Fin 16384) (k : Fin 64) :
    PR e (ix3 r 0 k : S16384x1x64.Idx) = Ideal.div (e (ix3 r 0 k)) (∑ t : Fin 64, e (ix3 r 0 t)) := by
  pointwise [PR]
/-- The next layer's input. -/
theorem NX_at (x : FVec Ideal S16384x1x128 .f32) (p : FVec Ideal S16384x1x64 .f32) (v : FVec Ideal S64x128 .f32) (r : Fin 16384) (k : Fin 128) :
    NX x p v (ix3 r 0 k : S16384x1x128.Idx) = x (ix3 r 0 k) + ∑ t : Fin 64, p (ix3 r 0 t) * v (ix2 t k) := by
  pointwise [NX]
/-- A signature's entry over its length. -/
theorem SG_at (t : FVec Ideal S64x128 .f32) (r : Fin 64) (k : Fin 128) :
    SG t (ix2 r k : S64x128.Idx) = Ideal.div (t (ix2 r k)) (Ideal.sqrt (∑ j : Fin 128, t (ix2 r j) * t (ix2 r j)) + Ideal.ofBits .f32 0x3089705F#32) := by
  pointwise [SG]
/-- The head's entry. -/
theorem HEAD_at (x : FVec Ideal S16384x1x128 .f32) (w1 : FVec Ideal S128x64 .f32) (b1 : FVec Ideal S64 .f32) (w2 : FVec Ideal S64x8 .f32) (b2 : FVec Ideal S8 .f32) (r : Fin 16384) (k : Fin 8) :
    HEAD x w1 b1 w2 b2 (ix2 r k : S16384x8.Idx)
      = Ideal.div 1 (1 + Ideal.exp (-(∑ h : Fin 64, max (∑ j : Fin 128, x (ix3 r 0 j) * w1 (ix2 j h) + b1 (ix1 h)) 0 * w2 (ix2 h k) + b2 (ix1 k)))) := by
  pointwise [HEAD]
/-- The first penalty. -/
theorem TERN_at (t : FVec Ideal S64x128 .f32) :
    TERN t ix0 = Ideal.ofBits .f32 0x3C23D70A#32 * Ideal.div (∑ x : Fin 64, ∑ k : Fin 128, FloatOps.absf (F := Ideal) (φ := .f32) (t (ix2 x k)) * (1 - FloatOps.absf (F := Ideal) (φ := .f32) (t (ix2 x k)))) (Ideal.ofBits .f32 0x46000000#32) := by
  pointwise [TERN]
/-- The last penalty. -/
theorem DIV_at (g : FVec Ideal S64x128 .f32) :
    DIV g ix0 = Ideal.ofBits .f32 0x3C23D70A#32 * Ideal.div ((∑ x : Fin 64, ∑ y : Fin 64, FloatOps.absf (F := Ideal) (φ := .f32) (∑ k : Fin 128, g (ix2 x k) * g (ix2 y k))) - Ideal.ofBits .f32 0x42800000#32) (Ideal.ofBits .f32 0x457C0000#32) := by
  pointwise [DIV]
/-- The total. -/
theorem TOT_at (t0 e0 d0 t1 e1 d1 : FVec Ideal S_ .f32) : TOT t0 e0 d0 t1 e1 d1 ix0 = t0 ix0 + e0 ix0 + d0 ix0 + (t1 ix0 + e1 ix0 + d1 ix0) := by
  pointwise [TOT]

end Cert.ReferenceIdeal.Val

end
-- ==== Proof.RVal.lean ====
module

public import proofs.«01_k».proof.Proof.RFeat
public import proofs.«01_k».proof.Proof.RReads
public import proofs.«01_k».proof.Proof.Spec
public import Idealize.ShloMosaic.Lib.Routing.Ops

@[expose] public section

set_option maxRecDepth 16384

noncomputable section

namespace Cert.ReferenceIdeal.Val

open Idealize.ShloMosaic Idealize.ShloMosaic.TcCoe Idealize.SL.Sem
open Cert.ReferenceIdeal Cert.ReferenceIdeal.Gen

/-- The signatures' entries. -/
def sg (s : FVec Ideal S64x128 .f32) (t : Fin 64) (k : Fin 128) : EReal := s (ix2 t k)

/-- The signatures' entries. -/
theorem TH_at (s : FVec Ideal S64x128 .f32) (t : Fin 64) (k : Fin 128) : TH s (ix2 t k : S64x128.Idx) = Ideal.tanh (sg s t k) := rfl

/-- The embedding's columns, where the operation is in range. -/
theorem FEAT_emb (op a b cc : IVec S16384 32) (E : FVec Ideal S8x32 .f32) (r : Fin 16384) (k : Fin 32) (ho : (op (ix1 r)).toNat < 8) :
    FEAT op a b cc E (ix2 r ⟨k.val, by omega⟩ : S16384x49.Idx) = E (ix2 (Alu.opn (op (ix1 r))) k) := by
  have h := Alu.idx_lt _ ho
  have hi : IDX op (ix2 r 0 : S16384x1.Idx) = op (ix1 r) := (IDX_at op r).trans h.1
  rw [FEAT_e, hi, h.2]
  refine (if_pos rfl).trans ?_
  exact Routing.gather_row gather_S8x32_S16384x1_S16384x32_1_0_n_n_0_1_132 rfl rfl rfl rfl rfl E (IDX op) r k (Alu.opn (op (ix1 r)))
    (hi.trans (Alu.idx_opn _ ho)) (by norm_num)

/-- The reference's projection is the network's, where the indices are in range and the tables are real. -/
theorem X0R_real (op a b cc : IVec S16384 32) (E : FVec Ideal S8x32 .f32) (W : FVec Ideal S49x128 .f32) (bi : FVec Ideal S128 .f32)
    (Er : Fin 8 → Fin 32 → ℝ) (Wr : Fin 49 → Fin 128 → ℝ) (hE : ∀ (i : Fin 8) (k : Fin 32), E (ix2 i k) = (Er i k : EReal))
    (hW : ∀ (i : Fin 49) (k : Fin 128), W (ix2 i k) = (Wr i k : EReal)) (hb : ∀ k : Fin 128, bi (ix1 k) = 0)
    (r : Fin 16384) (d : Fin 128) (ho : (op (ix1 r)).toNat < 8) (hc : (cc (ix1 r)).toNat < 2) :
    X0R (FEAT op a b cc E) W bi (ix2 r d : S16384x128.Idx) = (Alu.x0 (op (ix1 r)) (a (ix1 r)) (b (ix1 r)) (cc (ix1 r)) Er Wr d : EReal) := by
  have e : ∀ f : Fin 49 → EReal, ∑ j, f j = (∑ k : Fin 32, f ⟨k.val, by omega⟩) + ((∑ i : Fin 8, f ⟨32 + i.val, by omega⟩)
      + ((∑ i : Fin 8, f ⟨40 + i.val, by omega⟩) + f ⟨48, by decide⟩)) := fun f => by
    simp only [Fin.sum_univ_succ, Fin.sum_univ_zero, add_zero, add_assoc]
    rfl
  rw [X0R_at, e, hb, add_zero, Alu.x0]
  simp only [FEAT_emb op a b cc E r _ ho, FEAT_a, FEAT_b, FEAT_c, Alu.sitofp_bit .host _ _ (lt_trans (Fin.isLt _) (by decide : 8 < 32)), Alu.carry _ hc, hE, hW,
    ← EReal.coe_mul, ← Alu.coe_sum, ← EReal.coe_add, mul_comm (Alu.bitR _ _)]

/-- The reference's mixed rows. -/
theorem X1R_real (x : FVec Ideal S16384x128 .f32) (mix : FVec Ideal S128x128 .f32) (bm : FVec Ideal S128 .f32) (r : Fin 16384) (xr : Fin 128 → ℝ) (mr : Fin 128 → Fin 128 → ℝ)
    (hx : ∀ d : Fin 128, x (ix2 r d) = (xr d : EReal)) (hm : ∀ k d : Fin 128, mix (ix2 k d) = (mr k d : EReal)) (hb : ∀ k : Fin 128, bm (ix1 k) = 0) (d : Fin 128) :
    X1R x mix bm (ix3 r 0 d : S16384x1x128.Idx) = (Alu.x1 xr mr d : EReal) := by
  rw [X1R_at, hb, add_zero]
  simp only [hx, hm, Ideal.tanh_coe, ← EReal.coe_mul, ← Alu.coe_sum, ← EReal.coe_add, Alu.x1]

section layer
variable (x : FVec Ideal S16384x1x128 .f32) (s : FVec Ideal S64x128 .f32) (r : Fin 16384) (y : Fin 128 → ℝ)
  (hy : ∀ d : Fin 128, x (ix3 r 0 d : S16384x1x128.Idx) = (y d : EReal))
include hy

/-- The reference's scores. -/
theorem SC_real (t : Fin 64) : SC x (TH s) (ix3 r 0 t : S16384x1x64.Idx) = (Alu.sc y (sg s) t : EReal) := by
  rw [SC_at]
  simp only [hy, TH_at, Alu.tanh_eq, ← EReal.coe_mul, ← Alu.coe_sum, Alu.sc]

/-- The reference's exponentials. -/
theorem EX_real (t : Fin 64) : EX (SC x (TH s)) (ix3 r 0 t : S16384x1x64.Idx) = (Alu.ex (Alu.sc y (sg s)) t : EReal) := by
  rw [EX_at]
  simp only [SC_real x s r y hy, Alu.ninf, Alu.fold_max]
  rw [max_eq_right bot_le, ← EReal.coe_sub, Ideal.exp_coe, Alu.ex]

/-- The reference's probabilities. -/
theorem PR_real (t : Fin 64) : PR (EX (SC x (TH s))) (ix3 r 0 t : S16384x1x64.Idx) = (Alu.pr (Alu.sc y (sg s)) t : EReal) := by
  rw [PR_at]
  simp only [EX_real x s r y hy, ← Alu.coe_sum]
  exact Alu.div_tot _ _

/-- The next layer's input. -/
theorem NX_real (v : FVec Ideal S64x128 .f32) (vr : Fin 64 → Fin 128 → ℝ) (hv : ∀ (t : Fin 64) (d : Fin 128), v (ix2 t d) = (vr t d : EReal)) (d : Fin 128) :
    NX x (PR (EX (SC x (TH s)))) v (ix3 r 0 d : S16384x1x128.Idx) = (Alu.x2 y (sg s) vr d : EReal) := by
  rw [NX_at]
  simp only [hy, hv, PR_real x s r y hy, ← EReal.coe_mul, ← Alu.coe_sum, ← EReal.coe_add, Alu.x2]

end layer

/-- The penalties of a layer's signatures. -/
theorem TERN_real (s : FVec Ideal S64x128 .f32) : TERN (TH s) ix0 = Alu.tern (sg s) := by
  rw [TERN_at]
  simp only [TH_at, Alu.tern]

/-- The reference's diversity penalty. -/
theorem DIV_real (s : FVec Ideal S64x128 .f32) : DIV (SG (TH s)) ix0 = Alu.divp (sg s) := by
  rw [DIV_at]
  simp only [SG_at, TH_at, Alu.divp, Alu.sgn]

/-- The entropy penalty, over real probabilities and real logarithms. -/
theorem ENT_real (p lg : FVec Ideal S16384x1x64 .f32) (q g : Fin 16384 → Fin 64 → ℝ)
    (hp : ∀ (r : Fin 16384) (t : Fin 64), p (ix3 r 0 t : S16384x1x64.Idx) = (q r t : EReal)) (hl : ∀ (r : Fin 16384) (t : Fin 64), lg (ix3 r 0 t : S16384x1x64.Idx) = (g r t : EReal)) :
    ENT p lg ix0 = ((-(10737418 / 2 ^ 31) / 16384 * ∑ r, ∑ t, q r t * g r t : ℝ) : EReal) := by
  rw [ENT_at]
  simp only [hp, hl, ← EReal.coe_mul, ← Alu.coe_sum]
  exact Alu.ent_pen _

/-- The reference's rows after the mixer. -/
def X1A (op a b cc : IVec S16384 32) (E : FVec Ideal S8x32 .f32) (W : FVec Ideal S49x128 .f32) (bi : FVec Ideal S128 .f32) (mix : FVec Ideal S128x128 .f32) (bm : FVec Ideal S128 .f32) : FVec Ideal S16384x1x128 .f32 :=
  X1R (X0R (FEAT op a b cc E) W bi) mix bm
/-- The probabilities of a layer over its input. -/
def PA (x : FVec Ideal S16384x1x128 .f32) (s : FVec Ideal S64x128 .f32) : FVec Ideal S16384x1x64 .f32 := PR (EX (SC x (TH s)))
/-- The second layer's input. -/
def X2A (x : FVec Ideal S16384x1x128 .f32) (s v : FVec Ideal S64x128 .f32) : FVec Ideal S16384x1x128 .f32 := NX x (PA x s) v
/-- The reference's first result over the rows after the mixer. -/
def OUTR (x : FVec Ideal S16384x1x128 .f32) (s0 v0 s1 v1 : FVec Ideal S64x128 .f32) (w1 : FVec Ideal S128x64 .f32) (b1 : FVec Ideal S64 .f32) (w2 : FVec Ideal S64x8 .f32) (b2 : FVec Ideal S8 .f32) : FVec Ideal S16384x8 .f32 :=
  HEAD (X2A (X2A x s0 v0) s1 v1) w1 b1 w2 b2
/-- The second result over the rows after the mixer, and over what is taken the logarithm of. -/
def AUXG (lg : FVec Ideal S16384x1x64 .f32 → FVec Ideal S16384x1x64 .f32) (x : FVec Ideal S16384x1x128 .f32) (s0 v0 s1 : FVec Ideal S64x128 .f32) : FVec Ideal S_ .f32 :=
  TOT (TERN (TH s0)) (ENT (PA x s0) (lg (PA x s0))) (DIV (SG (TH s0)))
    (TERN (TH s1)) (ENT (PA (X2A x s0 v0) s1) (lg (PA (X2A x s0 v0) s1))) (DIV (SG (TH s1)))

section whole
variable (x : FVec Ideal S16384x1x128 .f32) (s0 v0 s1 v1 : FVec Ideal S64x128 .f32)
  (w1 : FVec Ideal S128x64 .f32) (b1 : FVec Ideal S64 .f32) (w2 : FVec Ideal S64x8 .f32) (b2 : FVec Ideal S8 .f32)
  (y : Fin 16384 → Fin 128 → ℝ) (vr : Fin 64 → Fin 128 → ℝ)
  (hy : ∀ (r : Fin 16384) (d : Fin 128), x (ix3 r 0 d : S16384x1x128.Idx) = (y r d : EReal))
  (hv : ∀ (t : Fin 64) (d : Fin 128), v0 (ix2 t d) = (vr t d : EReal))
include hy hv

/-- The reference's first result is the head over the network's second layer. -/
theorem OUTR_at (h1 : ∀ h : Fin 64, b1 (ix1 h) = 0) (h2 : ∀ d : Fin 8, b2 (ix1 d) = 0) (r : Fin 16384) (d : Fin 8) :
    OUTR x s0 v0 s1 v1 w1 b1 w2 b2 (ix2 r d : S16384x8.Idx)
      = Alu.head (Alu.x2 (y r) (sg s0) vr) (Alu.pr (Alu.sc (Alu.x2 (y r) (sg s0) vr) (sg s1)))
          (fun t k => v1 (ix2 t k)) (fun k h => w1 (ix2 k h)) (fun h d => w2 (ix2 h d)) d := by
  have h2a := NX_real x s0 r (y r) (hy r) v0 vr hv
  have hp := PR_real (X2A x s0 v0) s1 r _ h2a
  unfold OUTR Alu.head
  rw [HEAD_at, h2, add_zero]
  have e : ∀ j : Fin 128, X2A (X2A x s0 v0) s1 v1 (ix3 r 0 j : S16384x1x128.Idx)
      = (Alu.x2 (y r) (sg s0) vr j : EReal) + ∑ t : Fin 64, v1 (ix2 t j) * (Alu.pr (Alu.sc (Alu.x2 (y r) (sg s0) vr) (sg s1)) t : EReal) := fun j => by
    refine (NX_at _ _ _ r j).trans ?_
    rw [show X2A x s0 v0 (ix3 r 0 j : S16384x1x128.Idx) = _ from h2a j]
    refine congrArg _ (Finset.sum_congr rfl fun t _ => ?_)
    rw [show PA (X2A x s0 v0) s1 (ix3 r 0 t : S16384x1x64.Idx) = _ from hp t, mul_comm]
  simp only [e, h1, add_zero]
  refine (congrArg (fun z : EReal => Ideal.logistic z) ?_ : Ideal.logistic _ = _)
  refine Finset.sum_congr rfl fun h _ => ?_
  rw [mul_comm]
  refine congrArg (fun z : EReal => w2 (ix2 h d) * max z 0) (Finset.sum_congr rfl fun k _ => mul_comm _ _)

/-- The second result, over logarithms that are real. -/
theorem AUXG_at (lg : FVec Ideal S16384x1x64 .f32 → FVec Ideal S16384x1x64 .f32) (e : ℝ)
    (hl : ∀ (p : FVec Ideal S16384x1x64 .f32) (r : Fin 16384) (t : Fin 64) (q : ℝ), 0 < q → p (ix3 r 0 t : S16384x1x64.Idx) = (q : EReal)
      → lg p (ix3 r 0 t : S16384x1x64.Idx) = (Real.log (q + e) : EReal)) :
    AUXG lg x s0 v0 s1 ix0 = Alu.aux ((∑ r, Alu.ente e (Alu.sc (y r) (sg s0))) + ∑ r, Alu.ente e (Alu.sc (Alu.x2 (y r) (sg s0) vr) (sg s1))) (sg s0) (sg s1) := by
  have p0 := fun r t => PR_real x s0 r (y r) (hy r) t
  have h2a := fun r => NX_real x s0 r (y r) (hy r) v0 vr hv
  have p1 := fun r t => PR_real (X2A x s0 v0) s1 r _ (h2a r) t
  unfold AUXG
  rw [TOT_at, TERN_real, DIV_real, TERN_real, DIV_real,
    ENT_real (PA x s0) _ _ _ p0 (fun r t => hl (PA x s0) r t _ (Alu.pr_pos _ t) (p0 r t)),
    ENT_real (PA (X2A x s0 v0) s1) _ _ _ p1 (fun r t => hl (PA (X2A x s0 v0) s1) r t _ (Alu.pr_pos _ t) (p1 r t)), Alu.aux_eq]
  rfl

end whole

/-- The logarithm of a positive real. -/
theorem log_at (p : FVec Ideal S16384x1x64 .f32) (r : Fin 16384) (t : Fin 64) (q : ℝ) (hq : 0 < q) (hp : p (ix3 r 0 t : S16384x1x64.Idx) = (q : EReal)) :
    Host.log p (ix3 r 0 t : S16384x1x64.Idx) = (Real.log (q + 0) : EReal) := by
  show Ideal.log (p (ix3 r 0 t)) = _
  rw [hp, Ideal.log_coe, if_neg (not_le.2 hq), add_zero]

end Cert.ReferenceIdeal.Val

end
-- ==== Proof.RRun.lean ====
module

public import proofs.«01_k».proof.Proof.RVal

@[expose] public section

set_option maxRecDepth 16384

noncomputable section

/-! The reference program's run, its results named by the stages. -/

namespace Cert.ReferenceIdeal.Val

open Idealize.ShloMosaic Idealize.ShloMosaic.TcCoe Idealize.SL.Sem
open Cert.ReferenceIdeal Cert.ReferenceIdeal.Gen

variable (m : (ℓ : Loc nD τ sig) → Buf (Elt Ideal) ℓ) (c : Dev nD)

/-- The layers' input, of the device's arguments. -/
def X1m : FVec Ideal S16384x1x128 .f32 :=
  X1A (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))

/-- The first result, of the device's arguments. -/
def OUTRm : FVec Ideal S16384x8 .f32 :=
  OUTR (X1m m c) (m ((c.tc : Thread nD τ).loc main_arg9)) (m ((c.tc : Thread nD τ).loc main_arg10)) (m ((c.tc : Thread nD τ).loc main_arg11))
    (m ((c.tc : Thread nD τ).loc main_arg12)) (m ((c.tc : Thread nD τ).loc main_arg13)) (m ((c.tc : Thread nD τ).loc main_arg14))
    (m ((c.tc : Thread nD τ).loc main_arg15)) (m ((c.tc : Thread nD τ).loc main_arg16))

/-- The second result, of the device's arguments. -/
def AUXRm : FVec Ideal S_ .f32 :=
  AUXG Host.log (X1m m c) (m ((c.tc : Thread nD τ).loc main_arg9)) (m ((c.tc : Thread nD τ).loc main_arg10)) (m ((c.tc : Thread nD τ).loc main_arg11))

/-- Every execution of the reference ends with its results at the stages' values and its arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v204) = OUTRm m c
      ∧ r.2.mem ((c.tc : Thread nD τ).loc main_v188) = AUXRm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => ⟨(h c).1.trans rfl, (h c).2.1.trans rfl, (h c).2.2⟩) (Cert.ReferenceIdeal.Value.run m ρ)

end Cert.ReferenceIdeal.Val

end
-- ==== Proof.KVal.lean ====
module

public import proofs.«01_k».proof.Proof.Gen.KernelIdeal.Skeleton
public import Idealize.ShloMosaic.Lib.Pointwise
public import proofs.«01_k».proof.Proof.Spec
public import proofs.«01_k».proof.Proof.Kern

@[expose] public section

set_option maxRecDepth 16384

noncomputable section

namespace Cert.KernelIdeal.Val

open Idealize.ShloMosaic Idealize.ShloMosaic.TcCoe Idealize.SL.Sem
open Cert.KernelIdeal Cert.KernelIdeal.Gen

/-- The kernel's input projection is the network's, where the indices are in range and the tables are real. -/
theorem pay8_at (op a b cc : IVec S16384 32) (E : FVec Ideal S8x32 .f32) (w0 : FVec Ideal S32x128 .f32) (w1 w2 : FVec Ideal S8x128 .f32) (w3 : FVec Ideal S1x128 .f32)
    (Er : Fin 8 → Fin 32 → ℝ) (Wr : Fin 49 → Fin 128 → ℝ) (hE : ∀ (i : Fin 8) (k : Fin 32), E (ix2 i k) = (Er i k : EReal))
    (h0 : ∀ (k : Fin 32) (d : Fin 128), w0 (ix2 k d) = (Wr ⟨k.val, by omega⟩ d : EReal))
    (h1 : ∀ (k : Fin 8) (d : Fin 128), w1 (ix2 k d) = (Wr ⟨32 + k.val, by omega⟩ d : EReal))
    (h2 : ∀ (k : Fin 8) (d : Fin 128), w2 (ix2 k d) = (Wr ⟨40 + k.val, by omega⟩ d : EReal))
    (h3 : ∀ (d : Fin 128), w3 (ix2 0 d) = (Wr ⟨48, by omega⟩ d : EReal))
    (d : Fin 128) (r : Fin 16384) (ho : (op (ix1 r)).toNat < 8) (ha : (a (ix1 r)).toNat < 256) (hb : (b (ix1 r)).toNat < 256) :
    k0_pay8 (F := Ideal) op a b cc E w0 w1 w2 w3 (ix2 d r : S128x16384.Idx)
      = (Alu.x0 (op (ix1 r)) (a (ix1 r)) (b (ix1 r)) (cc (ix1 r)) Er Wr d : EReal) := by
  pointwise [k0_pay8]
  refine (Finset.sum_congr rfl fun (j : Fin 32) _ => congrArg (_ * ·) (Alu.sitofp_bit .vector (Alu.word (op (ix1 r)) (a (ix1 r)) (b (ix1 r)) (cc (ix1 r))) j.val j.isLt)).trans ?_
  refine Alu.word_sum _ _ _ _ ho ha hb Er Wr d _ (fun i => ?_) (fun i => ?_) (fun i => ?_) ?_ (fun i => ?_)
  · have hi : i.val < 8 := i.isLt
    simp only [hi, dif_pos, hE, h0, ← EReal.coe_mul, ← Alu.coe_sum]
  · have e1 : ¬ (8 + i.val < 8) := by omega
    have e2 : 8 + i.val - 8 < 8 := by omega
    have e3 : (⟨8 + i.val - 8, e2⟩ : Fin 8) = i := Fin.ext (by show 8 + i.val - 8 = i.val; omega)
    simp only [dif_neg e1, dif_pos e2, e3, h1]
  · have e1 : ¬ (16 + i.val < 8) := by omega
    have e2 : ¬ (16 + i.val - 8 < 8) := by omega
    have e3 : 16 + i.val - 8 - 8 < 8 := by omega
    have e4 : (⟨16 + i.val - 8 - 8, e3⟩ : Fin 8) = i := Fin.ext (by show 16 + i.val - 8 - 8 = i.val; omega)
    simp only [dif_neg e1, dif_neg e2, dif_pos e3, e4, h2]
  · exact h3 d
  · have e1 : ¬ (25 + i.val < 8) := by omega
    have e2 : ¬ (25 + i.val - 8 < 8) := by omega
    have e3 : ¬ (25 + i.val - 8 - 8 < 8) := by omega
    have e4 : ¬ (25 + i.val - 8 - 8 - 8 < 1) := by omega
    simp only [dif_neg e1, dif_neg e2, dif_neg e3, dif_neg e4]

/-- The kernel's projection over the weights' rows. -/
theorem X0_at (op a b cc : IVec S16384 32) (E : FVec Ideal S8x32 .f32) (W : FVec Ideal S49x128 .f32)
    (Er : Fin 8 → Fin 32 → ℝ) (Wr : Fin 49 → Fin 128 → ℝ) (hE : ∀ (i : Fin 8) (k : Fin 32), E (ix2 i k) = (Er i k : EReal))
    (hW : ∀ (i : Fin 49) (k : Fin 128), W (ix2 i k) = (Wr i k : EReal))
    (d : Fin 128) (r : Fin 16384) (ho : (op (ix1 r)).toNat < 8) (ha : (a (ix1 r)).toNat < 256) (hb : (b (ix1 r)).toNat < 256) :
    X0 op a b cc E W (ix2 d r : S128x16384.Idx) = (Alu.x0 (op (ix1 r)) (a (ix1 r)) (b (ix1 r)) (cc (ix1 r)) Er Wr d : EReal) := by
  refine pay8_at op a b cc E _ _ _ _ Er Wr hE (fun k d => ?_) (fun k d => ?_) (fun k d => ?_) (fun d => ?_) d r ho ha hb
  · rw [rowsOf_at, hW]; congr 2; exact Fin.ext (Nat.zero_add _)
  · rw [rowsOf_at, hW]
  · rw [rowsOf_at, hW]
  · rw [rowsOf_at, hW]; rfl

/-- The mixer, added. -/
theorem pay9_at (x : FVec Ideal S128x16384 .f32) (w : FVec Ideal S128x128 .f32) (r : Fin 16384) (xr : Fin 128 → ℝ) (wr : Fin 128 → Fin 128 → ℝ)
    (hx : ∀ d : Fin 128, x (ix2 d r) = (xr d : EReal)) (hw : ∀ k d : Fin 128, w (ix2 k d) = (wr k d : EReal)) (d : Fin 128) :
    k0_pay9 (F := Ideal) x w (ix2 d r : S128x16384.Idx) = (Alu.x1 xr wr d : EReal) := by
  pointwise [k0_pay9]
  simp only [hx, hw, Ideal.tanh_coe, ← EReal.coe_mul, ← Alu.coe_sum, ← EReal.coe_add, Alu.x1, mul_comm (wr _ _)]

/-- A score less the row's largest. -/
theorem score_sub (y : Fin 128 → EReal) (yr : Fin 128 → ℝ) (hy : ∀ k, y k = (yr k : EReal)) (s : Fin 64 → Fin 128 → EReal) (t : Fin 64) :
    ∑ k, Ideal.tanh (s t k) * y k - Finset.fold max (Ideal.ofBits FTy.f32 0xFF800000#32) (fun t => ∑ k, Ideal.tanh (s t k) * y k) Finset.univ
      = ((Alu.sc yr s t - Alu.mx (Alu.sc yr s) : ℝ) : EReal) := by
  have e : ∀ t, ∑ k, Ideal.tanh (s t k) * y k = (Alu.sc yr s t : EReal) := fun t => by
    simp only [hy, Alu.tanh_eq, ← EReal.coe_mul, ← Alu.coe_sum, Alu.sc, mul_comm (Alu.thr _)]
  simp only [e, Alu.ninf, Alu.fold_max, ← EReal.coe_sub]

section layer0
variable (x : FVec Ideal S128x16384 .f32) (w : FVec Ideal S128x128 .f32) (s : FVec Ideal S64x128 .f32) (r : Fin 16384) (y : Fin 128 → ℝ)
  (hy : ∀ k : Fin 128, k0_pay9 (F := Ideal) x w (ix2 k r : S128x16384.Idx) = (y k : EReal))

/-- The signatures' entries. -/
def sg (s : FVec Ideal S64x128 .f32) (t : Fin 64) (k : Fin 128) : EReal := s (ix2 t k)

include hy

/-- The first layer's scores below their largest. -/
theorem pay10_at (t : Fin 64) :
    k0_pay10 (F := Ideal) x w s (ix2 t r : S64x16384.Idx) = ((Alu.sc y (sg s) t - Alu.mx (Alu.sc y (sg s)) : ℝ) : EReal) := by
  pointwise [k0_pay10]
  exact score_sub _ y hy (sg s) t

/-- The first layer's exponentials. -/
theorem pay11_at (t : Fin 64) : k0_pay11 (F := Ideal) x w s (ix2 t r : S64x16384.Idx) = (Alu.ex (Alu.sc y (sg s)) t : EReal) := by
  pointwise [k0_pay11]
  rw [pay10_at x w s r y hy, Ideal.exp_coe, Alu.ex]

/-- The first layer's totals of exponentials. -/
theorem pay12_at : k0_pay12 (F := Ideal) x w s (ix2 0 r : S1x16384.Idx) = (Alu.tot (Alu.sc y (sg s)) : EReal) := by
  pointwise [k0_pay12]
  simp only [pay11_at x w s r y hy, ← Alu.coe_sum, Alu.tot]

/-- One over the first layer's totals. -/
theorem pay13_at : k0_pay13 (F := Ideal) x w s (ix2 0 r : S1x16384.Idx) = ((1 / Alu.tot (Alu.sc y (sg s)) : ℝ) : EReal) := by
  pointwise [k0_pay13]
  rw [pay12_at x w s r y hy, Alu.one_div_tot]

/-- The second layer's input. -/
theorem pay14_at (v : FVec Ideal S64x128 .f32) (vr : Fin 64 → Fin 128 → ℝ) (hv : ∀ (t : Fin 64) (d : Fin 128), v (ix2 t d) = (vr t d : EReal)) (d : Fin 128) :
    k0_pay14 (F := Ideal) x w s v (ix2 d r : S128x16384.Idx) = (Alu.x2 y (sg s) vr d : EReal) := by
  pointwise [k0_pay14]
  simp only [hy, hv, pay11_at x w s r y hy, pay13_at x w s r y hy, ← EReal.coe_mul, ← Alu.coe_sum, ← EReal.coe_add, Alu.x2, Alu.pr]
  congr 2
  exact Finset.sum_congr rfl fun t _ => by ring

/-- The first layer's entropies. -/
theorem pay15_at : k0_pay15 (F := Ideal) x w s (ix2 0 r : S1x16384.Idx) = (Alu.ent (Alu.sc y (sg s)) : EReal) := by
  pointwise [k0_pay15]
  simp only [pay10_at x w s r y hy, pay11_at x w s r y hy, pay12_at x w s r y hy, pay13_at x w s r y hy, Alu.log_tot, ← EReal.coe_mul, ← Alu.coe_sum, ← EReal.coe_sub]
  simp only [Alu.ex, ← Alu.ent_eq]

end layer0

section layer1
variable (x : FVec Ideal S128x16384 .f32) (w : FVec Ideal S128x128 .f32) (s v s1 : FVec Ideal S64x128 .f32) (r : Fin 16384) (y : Fin 128 → ℝ)
  (hy : ∀ k : Fin 128, k0_pay14 (F := Ideal) x w s v (ix2 k r : S128x16384.Idx) = (y k : EReal))
include hy

/-- The second layer's scores below their largest. -/
theorem pay16_at (t : Fin 64) :
    k0_pay16 (F := Ideal) x w s v s1 (ix2 t r : S64x16384.Idx) = ((Alu.sc y (sg s1) t - Alu.mx (Alu.sc y (sg s1)) : ℝ) : EReal) := by
  pointwise [k0_pay16]
  exact score_sub _ y hy (sg s1) t

/-- The second layer's exponentials. -/
theorem pay17_at (t : Fin 64) : k0_pay17 (F := Ideal) x w s v s1 (ix2 t r : S64x16384.Idx) = (Alu.ex (Alu.sc y (sg s1)) t : EReal) := by
  pointwise [k0_pay17]
  rw [pay16_at x w s v s1 r y hy, Ideal.exp_coe, Alu.ex]

/-- The second layer's totals of exponentials. -/
theorem pay18_at : k0_pay18 (F := Ideal) x w s v s1 (ix2 0 r : S1x16384.Idx) = (Alu.tot (Alu.sc y (sg s1)) : EReal) := by
  pointwise [k0_pay18]
  simp only [pay17_at x w s v s1 r y hy, ← Alu.coe_sum, Alu.tot]

/-- One over the second layer's totals. -/
theorem pay19_at : k0_pay19 (F := Ideal) x w s v s1 (ix2 0 r : S1x16384.Idx) = ((1 / Alu.tot (Alu.sc y (sg s1)) : ℝ) : EReal) := by
  pointwise [k0_pay19]
  rw [pay18_at x w s v s1 r y hy, Alu.one_div_tot]

/-- The second layer's probabilities. -/
theorem pay20_at (t : Fin 64) : k0_pay20 (F := Ideal) x w s v s1 (ix2 t r : S64x16384.Idx) = (Alu.pr (Alu.sc y (sg s1)) t : EReal) := by
  pointwise [k0_pay20]
  rw [pay17_at x w s v s1 r y hy, pay19_at x w s v s1 r y hy, ← EReal.coe_mul, Alu.pr]
  congr 1; ring

end layer1

/-- The head. -/
theorem pay1_at (x : FVec Ideal S128x16384 .f32) (p : FVec Ideal S64x16384 .f32) (v : FVec Ideal S64x128 .f32) (w1 : FVec Ideal S128x64 .f32) (w2 : FVec Ideal S64x8 .f32) (d : Fin 8) (r : Fin 16384) :
    k0_pay1 (F := Ideal) x p v w1 w2 (ix2 d r : S8x16384.Idx)
      = Ideal.logistic (∑ h : Fin 64, w2 (ix2 h d) * max (∑ k : Fin 128, w1 (ix2 k h) * (x (ix2 k r) + ∑ t : Fin 64, v (ix2 t k) * p (ix2 t r))) 0) := by
  pointwise [k0_pay1]

/-- The first layer's penalties. -/
theorem pay5_at (v : FVec Ideal S64x128 .f32) : k0_pay5 (F := Ideal) v = Alu.tern (sg v) + Alu.divp (sg v) := by
  unfold Alu.tern Alu.divp Alu.sgn sg
  pointwise [k0_pay5]

/-- The second layer's penalties, added to the rest. -/
theorem pay3_at (v62 : FVec Ideal S1x16384 .f32) (v69 : FVec Ideal S64x16384 .f32) (v70 : FVec Ideal S64x16384 .f32) (v72 : FVec Ideal S1x16384 .f32) (v74 : FVec Ideal S1x16384 .f32) (a : EReal) (v : FVec Ideal S64x128 .f32) :
    k0_pay3 (F := Ideal) v62 v69 v70 v72 v74 a (k0_pay6 v) (k0_pay7 v) (Scalar.ofBits .f32 0x46000000#32) (ix2 0 0 : S1x1.Idx)
      = k0_pay2 v62 v69 v70 v72 v74 + (a + Alu.tern (sg v) + Alu.divp (sg v)) := by
  unfold Alu.tern Alu.divp Alu.sgn sg
  pointwise [k0_pay3, k0_pay7, k0_pay6]

/-- The entropies' part. -/
theorem pay2_at (v62 : FVec Ideal S1x16384 .f32) (v69 : FVec Ideal S64x16384 .f32) (v70 : FVec Ideal S64x16384 .f32) (v72 : FVec Ideal S1x16384 .f32) (v74 : FVec Ideal S1x16384 .f32) :
    k0_pay2 (F := Ideal) v62 v69 v70 v72 v74
      = Ideal.ofBits .f32 0xB4A3D70A#32 * ∑ r : Fin 16384, (v62 (ix2 0 r) + ((∑ t : Fin 64, v70 (ix2 t r) * v69 (ix2 t r)) * v74 (ix2 0 r) - Ideal.log (v72 (ix2 0 r)))) := by
  pointwise [k0_pay2]
  exact congrArg _ (Fin.sum_univ_one _)

section whole
variable (x : FVec Ideal S128x16384 .f32) (mix : FVec Ideal S128x128 .f32) (s0 v0 s1 v1 : FVec Ideal S64x128 .f32)
  (w1 : FVec Ideal S128x64 .f32) (w2 : FVec Ideal S64x8 .f32) (xr : Fin 16384 → Fin 128 → ℝ) (mr : Fin 128 → Fin 128 → ℝ) (vr : Fin 64 → Fin 128 → ℝ)
  (hx : ∀ (d : Fin 128) (r : Fin 16384), x (ix2 d r) = (xr r d : EReal)) (hm : ∀ k d : Fin 128, mix (ix2 k d) = (mr k d : EReal))
  (hv : ∀ (t : Fin 64) (d : Fin 128), v0 (ix2 t d) = (vr t d : EReal))
include hx hm hv

/-- The kernel's first result is the head over the network's second layer. -/
theorem OUT_at (d : Fin 8) (r : Fin 16384) :
    OUT x mix s0 v0 s1 v1 w1 w2 (ix2 d r : S8x16384.Idx)
      = Alu.head (Alu.x2 (Alu.x1 (xr r) mr) (sg s0) vr) (Alu.pr (Alu.sc (Alu.x2 (Alu.x1 (xr r) mr) (sg s0) vr) (sg s1)))
          (fun t k => v1 (ix2 t k)) (fun k h => w1 (ix2 k h)) (fun h d => w2 (ix2 h d)) d := by
  have h9 := pay9_at x mix r (xr r) mr (fun d => hx d r) hm
  have h14 := pay14_at x mix s0 r _ h9 v0 vr hv
  unfold OUT Alu.head
  rw [pay1_at]
  simp only [h14, pay20_at x mix s0 v0 s1 r _ h14]

/-- The kernel's second result is the entropies' part and the penalties of the two layers. -/
theorem AUX_at :
    AUX x mix s0 v0 s1 (ix2 0 0 : S1x1.Idx)
      = Ideal.ofBits .f32 0xB4A3D70A#32 * ((∑ r, (Alu.ent (Alu.sc (Alu.x1 (xr r) mr) (sg s0)) + Alu.ent (Alu.sc (Alu.x2 (Alu.x1 (xr r) mr) (sg s0) vr) (sg s1))) : ℝ) : EReal)
        + (Alu.tern (sg s0) + Alu.divp (sg s0) + Alu.tern (sg s1) + Alu.divp (sg s1)) := by
  have h9 := fun r => pay9_at x mix r (xr r) mr (fun d => hx d r) hm
  have h14 := fun r => pay14_at x mix s0 r _ (h9 r) v0 vr hv
  unfold AUX
  rw [pay3_at, pay2_at, pay5_at]
  have e : ∀ r : Fin 16384, k0_pay15 (F := Ideal) x mix s0 (ix2 0 r) + ((∑ t : Fin 64, k0_pay17 (F := Ideal) x mix s0 v0 s1 (ix2 t r) * k0_pay16 (F := Ideal) x mix s0 v0 s1 (ix2 t r)) * k0_pay19 (F := Ideal) x mix s0 v0 s1 (ix2 0 r) - Ideal.log (k0_pay18 (F := Ideal) x mix s0 v0 s1 (ix2 0 r)))
      = ((Alu.ent (Alu.sc (Alu.x1 (xr r) mr) (sg s0)) + Alu.ent (Alu.sc (Alu.x2 (Alu.x1 (xr r) mr) (sg s0) vr) (sg s1)) : ℝ) : EReal) := fun r => by
    rw [pay15_at x mix s0 r _ (h9 r), pay18_at x mix s0 v0 s1 r _ (h14 r), pay19_at x mix s0 v0 s1 r _ (h14 r)]
    simp only [pay16_at x mix s0 v0 s1 r _ (h14 r), pay17_at x mix s0 v0 s1 r _ (h14 r), Alu.log_tot, ← EReal.coe_mul, ← Alu.coe_sum, ← EReal.coe_sub, ← EReal.coe_add]
    simp only [Alu.ex, ← Alu.ent_eq]
  rw [Alu.coe_sum, Finset.sum_congr rfl fun r _ => e r]

end whole

end Cert.KernelIdeal.Val

end
-- ==== Proof.Facts.lean ====
module

public import proofs.«01_k».proof.Defs
public import proofs.«01_k».proof.Proof.Gen.ReferenceIdeal

@[expose] public section

set_option maxRecDepth 16384

namespace Cert.Alu

/-- The shape facts the precondition's operations take. -/
theorem preFacts : Cert.Pre_pre.Facts where
  bcast_S_S16384 := by decide
  bcast_S_S128 := by decide
  bcast_S_S64 := by decide
  bcast_S_S8 := by decide
  bcast_S_S8x32 := by decide
  bcast_S_S49x128 := by decide
  bcast_S_S128x128 := by decide
  bcast_S_S64x128 := by decide

/-- The shape facts the postcondition's operations take. -/
theorem postFacts : Cert.Post_near.Facts where
  bcast_S_S16384 := Cert.ReferenceIdeal.Gen.bcast_S_S16384
  bcast_S16384_S16384x1_0 := Cert.ReferenceIdeal.Gen.bcast_S16384_S16384x1_0
  bcast_S_S16384x1 := Cert.ReferenceIdeal.Gen.bcast_S_S16384x1
  bcast_S1_S1x1_1 := Cert.ReferenceIdeal.Gen.bcast_S1_S1x1_1
  bcast_S1x1_S16384x1_0_1 := Cert.ReferenceIdeal.Gen.bcast_S1x1_S16384x1_0_1
  reducesTo_S16384x1_S16384_d1 := Cert.ReferenceIdeal.Gen.reducesTo_S16384x1_S16384_d1
  h_S_ := Cert.ReferenceIdeal.Gen.h_S_
  bcast_S16384_S16384x32_0 := Cert.ReferenceIdeal.Gen.bcast_S16384_S16384x32_0
  bcast_S_S16384x32 := Cert.ReferenceIdeal.Gen.bcast_S_S16384x32
  concatenates_S16384x1_S16384x1_S16384x1_S16384x1_S16384x1_S16384x1_S16384x1_S16384x1_S16384x8_d1 := Cert.ReferenceIdeal.Gen.concatenates_S16384x1_S16384x1_S16384x1_S16384x1_S16384x1_S16384x1_S16384x1_S16384x1_S16384x8_d1
  concatenates_S16384x32_S16384x8_S16384x8_S16384x1_S16384x49_d1 := Cert.ReferenceIdeal.Gen.concatenates_S16384x32_S16384x8_S16384x8_S16384x1_S16384x49_d1
  bcast_S128_S1x128_1 := Cert.ReferenceIdeal.Gen.bcast_S128_S1x128_1
  bcast_S1x128_S16384x128_0_1 := Cert.ReferenceIdeal.Gen.bcast_S1x128_S16384x128_0_1
  bcast_S16384x128_S16384x1x128_0_2 := Cert.ReferenceIdeal.Gen.bcast_S16384x128_S16384x1x128_0_2
  reducesTo_S16384x1x64_S16384x1_d2 := Cert.ReferenceIdeal.Gen.reducesTo_S16384x1x64_S16384x1_d2
  bcast_S16384x1_S16384x1x1_0_1 := Cert.ReferenceIdeal.Gen.bcast_S16384x1_S16384x1x1_0_1
  bcast_S16384x1x1_S16384x1x64_0_1_2 := Cert.ReferenceIdeal.Gen.bcast_S16384x1x1_S16384x1x64_0_1_2
  bcast_S_S64x128 := Cert.ReferenceIdeal.Gen.bcast_S_S64x128
  reducesTo_S64x128_S_d0_1 := Cert.ReferenceIdeal.Gen.reducesTo_S64x128_S_d0_1
  bcast_S_S16384x1x64 := by decide
  reducesTo_S16384x1_S_d0_1 := Cert.ReferenceIdeal.Gen.reducesTo_S16384x1_S_d0_1
  reducesTo_S64x128_S64_d1 := Cert.ReferenceIdeal.Gen.reducesTo_S64x128_S64_d1
  bcast_S64_S64x1_0 := Cert.ReferenceIdeal.Gen.bcast_S64_S64x1_0
  bcast_S_S64x1 := Cert.ReferenceIdeal.Gen.bcast_S_S64x1
  bcast_S64x1_S64x128_0_1 := Cert.ReferenceIdeal.Gen.bcast_S64x1_S64x128_0_1
  transposes_S64x128_S128x64_1_0 := Cert.ReferenceIdeal.Gen.transposes_S64x128_S128x64_1_0
  reducesTo_S64x64_S_d0_1 := Cert.ReferenceIdeal.Gen.reducesTo_S64x64_S_d0_1
  shapeCasts_S16384x1x128_S16384x128 := Cert.ReferenceIdeal.Gen.shapeCasts_S16384x1x128_S16384x128
  bcast_S64_S1x64_1 := Cert.ReferenceIdeal.Gen.bcast_S64_S1x64_1
  bcast_S1x64_S16384x64_0_1 := Cert.ReferenceIdeal.Gen.bcast_S1x64_S16384x64_0_1
  bcast_S_S16384x64 := Cert.ReferenceIdeal.Gen.bcast_S_S16384x64
  bcast_S8_S1x8_1 := Cert.ReferenceIdeal.Gen.bcast_S8_S1x8_1
  bcast_S1x8_S16384x8_0_1 := Cert.ReferenceIdeal.Gen.bcast_S1x8_S16384x8_0_1
  bcast_S_S16384x8 := Cert.ReferenceIdeal.Gen.bcast_S_S16384x8
  gather_S8x32_S16384x1_S16384x32_1_0_n_n_0_1_132_wf := Cert.ReferenceIdeal.Gen.gather_S8x32_S16384x1_S16384x32_1_0_n_n_0_1_132_wf
  dot_S16384x49_S49x128_S16384x128_1_0_0_1_n_n_wf := Cert.ReferenceIdeal.Gen.dot_S16384x49_S49x128_S16384x128_1_0_0_1_n_n_wf
  dot_S16384x128_S128x128_S16384x128_1_0_0_1_n_n_wf := Cert.ReferenceIdeal.Gen.dot_S16384x128_S128x128_S16384x128_1_0_0_1_n_n_wf
  dot_S16384x1x128_S64x128_S16384x1x64_2_1_01_0_n_n_wf := Cert.ReferenceIdeal.Gen.dot_S16384x1x128_S64x128_S16384x1x64_2_1_01_0_n_n_wf
  dot_S16384x1x64_S64x128_S16384x1x128_2_0_01_1_n_n_wf := Cert.ReferenceIdeal.Gen.dot_S16384x1x64_S64x128_S16384x1x128_2_0_01_1_n_n_wf
  dot_S64x128_S128x64_S64x64_1_0_0_1_n_n_wf := Cert.ReferenceIdeal.Gen.dot_S64x128_S128x64_S64x64_1_0_0_1_n_n_wf
  dot_S16384x128_S128x64_S16384x64_1_0_0_1_n_n_wf := Cert.ReferenceIdeal.Gen.dot_S16384x128_S128x64_S16384x64_1_0_0_1_n_n_wf
  dot_S16384x64_S64x8_S16384x8_1_0_0_1_n_n_wf := Cert.ReferenceIdeal.Gen.dot_S16384x64_S64x8_S16384x8_1_0_0_1_n_n_wf

end Cert.Alu

end
-- ==== Proof.Pre.lean ====
module

public import proofs.«01_k».proof.Proof.Facts
public import Idealize.ShloMosaic.Lib.Pointwise

@[expose] public section

set_option maxRecDepth 16384

noncomputable section

/-! What the precondition says of the arguments, read element by element. -/

namespace Cert.Alu

open Idealize.ShloMosaic

/-- A word at least zero and less than `n`, both as signed comparisons of a mask that is set, is less than `n`. -/
theorem word_lt (n : Nat) (hn : n < 2 ^ 31) (x : BitVec 32)
    (h : BitVec.ofBool ((0#32).sle x) &&& BitVec.ofBool (x.slt (BitVec.ofNat 32 n)) = 1#1) : x.toNat < n := by
  have h1 : (0#32).sle x = true := by
    cases e : (0#32).sle x
    · rw [e] at h; simp at h
    · rfl
  have h2 : x.slt (BitVec.ofNat 32 n) = true := by
    cases e : x.slt (BitVec.ofNat 32 n)
    · rw [e] at h; simp at h
    · rfl
  simp only [BitVec.sle, BitVec.slt, BitVec.toInt_eq_toNat_cond, decide_eq_true_eq, BitVec.toNat_ofNat] at h1 h2
  have : n % 2 ^ 32 = n := Nat.mod_eq_of_lt (by omega)
  rw [this] at h2
  have := x.isLt
  split at h1 <;> split at h2 <;> simp_all <;> omega

/-- A set mask of a decided statement is the statement. -/
theorem of_mask (p : Prop) [Decidable p] (h : BitVec.ofBool (decide p) = 1#1) : p := by
  by_contra e
  rw [decide_eq_false e] at h
  simp at h

/-- An extended real whose absolute value is below infinity is a real number. -/
theorem real_of (x : EReal) (h : max x (-x) < Ideal.ofBits .f32 0x7F800000#32) : x = (x.toReal : EReal) := by
  have ht : Ideal.ofBits .f32 0x7F800000#32 = ⊤ := by simp [Ideal.ofBits, Ideal.ieee]
  rw [ht] at h
  refine (EReal.coe_toReal ?_ ?_).symm
  · exact ((le_max_left _ _).trans_lt h).ne
  · intro e
    rw [e] at h
    simp at h

/-- Everything the precondition gives: the integers in their ranges, the biases zero, four arrays of real numbers. -/
structure Good (op a b cc : IVec Cert.Pre_pre.S16384 32) (E : FVec Ideal Cert.Pre_pre.S8x32 .f32) (W : FVec Ideal Cert.Pre_pre.S49x128 .f32)
    (bi : FVec Ideal Cert.Pre_pre.S128 .f32) (mix : FVec Ideal Cert.Pre_pre.S128x128 .f32) (bm : FVec Ideal Cert.Pre_pre.S128 .f32)
    (v0 : FVec Ideal Cert.Pre_pre.S64x128 .f32) (b1 : FVec Ideal Cert.Pre_pre.S64 .f32) (b2 : FVec Ideal Cert.Pre_pre.S8 .f32) : Prop where
  op8 : ∀ r, (op r).toNat < 8
  a256 : ∀ r, (a r).toNat < 256
  b256 : ∀ r, (b r).toNat < 256
  c2 : ∀ r, (cc r).toNat < 2
  bi0 : ∀ i, bi i = 0
  bm0 : ∀ i, bm i = 0
  b10 : ∀ i, b1 i = 0
  b20 : ∀ i, b2 i = 0
  Er : ∀ i, E i = ((E i).toReal : EReal)
  Wr : ∀ i, W i = ((W i).toReal : EReal)
  mixr : ∀ i, mix i = ((mix i).toReal : EReal)
  v0r : ∀ i, v0 i = ((v0 i).toReal : EReal)

/-- The precondition's twelve masks being set gives all of it. -/
theorem good (op a b cc : IVec Cert.Pre_pre.S16384 32) (E : FVec Ideal Cert.Pre_pre.S8x32 .f32) (W : FVec Ideal Cert.Pre_pre.S49x128 .f32)
    (bi : FVec Ideal Cert.Pre_pre.S128 .f32) (mix : FVec Ideal Cert.Pre_pre.S128x128 .f32) (bm : FVec Ideal Cert.Pre_pre.S128 .f32)
    (s0 v0 s1 v1 : FVec Ideal Cert.Pre_pre.S64x128 .f32) (w1) (b1 : FVec Ideal Cert.Pre_pre.S64 .f32) (w2) (b2 : FVec Ideal Cert.Pre_pre.S8 .f32)
    [Cert.Pre_pre.Facts]
    (h : ∃ y, y = Cert.Pre_pre.fn (F := Ideal) op a b cc E W bi mix bm s0 v0 s1 v1 w1 b1 w2 b2 ∧
      y.1 = (fun _ => 1#1) ∧ y.2.1 = (fun _ => 1#1) ∧ y.2.2.1 = (fun _ => 1#1) ∧ y.2.2.2.1 = (fun _ => 1#1)
      ∧ y.2.2.2.2.1 = (fun _ => 1#1) ∧ y.2.2.2.2.2.1 = (fun _ => 1#1) ∧ y.2.2.2.2.2.2.1 = (fun _ => 1#1)
      ∧ y.2.2.2.2.2.2.2.1 = (fun _ => 1#1) ∧ y.2.2.2.2.2.2.2.2.1 = (fun _ => 1#1) ∧ y.2.2.2.2.2.2.2.2.2.1 = (fun _ => 1#1)
      ∧ y.2.2.2.2.2.2.2.2.2.2.1 = (fun _ => 1#1) ∧ y.2.2.2.2.2.2.2.2.2.2.2 = (fun _ => 1#1)) :
    Good op a b cc E W bi mix bm v0 b1 b2 := by
  obtain ⟨y, rfl, h1, h2, h3, h4, h5, h6, h7, h8, h9, h10, h11, h12⟩ := h
  have z : Ideal.ofBits .f32 0x00000000#32 = 0 := by simp [Ideal.ofBits, Ideal.ieee]
  exact ⟨fun r => word_lt 8 (by norm_num) _ (congrFun h1 r), fun r => word_lt 256 (by norm_num) _ (congrFun h2 r),
    fun r => word_lt 256 (by norm_num) _ (congrFun h3 r), fun r => word_lt 2 (by norm_num) _ (congrFun h4 r),
    fun i => (of_mask _ (congrFun h5 i)).trans z, fun i => (of_mask _ (congrFun h6 i)).trans z,
    fun i => (of_mask _ (congrFun h7 i)).trans z, fun i => (of_mask _ (congrFun h8 i)).trans z,
    fun i => real_of _ (of_mask _ (congrFun h9 i)), fun i => real_of _ (of_mask _ (congrFun h10 i)),
    fun i => real_of _ (of_mask _ (congrFun h11 i)), fun i => real_of _ (of_mask _ (congrFun h12 i))⟩

end Cert.Alu

end
-- ==== Proof.Meet.lean ====
module

public import proofs.«01_k».proof.Proof.KVal
public import proofs.«01_k».proof.Proof.RVal
public import proofs.«01_k».proof.Proof.Pre

@[expose] public section

set_option maxRecDepth 16384

noncomputable section

/-! Both programs' results over the same arrays, where the precondition holds of them. -/

namespace Cert.Alu

open Idealize.ShloMosaic

variable (op a b cc : IVec Cert.KernelIdeal.S16384 32) (E : FVec Ideal Cert.KernelIdeal.S8x32 .f32) (W : FVec Ideal Cert.KernelIdeal.S49x128 .f32)
  (bi : FVec Ideal Cert.ReferenceIdeal.S128 .f32) (mix : FVec Ideal Cert.KernelIdeal.S128x128 .f32) (bm : FVec Ideal Cert.ReferenceIdeal.S128 .f32)
  (s0 v0 s1 v1 : FVec Ideal Cert.KernelIdeal.S64x128 .f32) (w1 : FVec Ideal Cert.KernelIdeal.S128x64 .f32) (b1 : FVec Ideal Cert.ReferenceIdeal.S64 .f32)
  (w2 : FVec Ideal Cert.KernelIdeal.S64x8 .f32) (b2 : FVec Ideal Cert.ReferenceIdeal.S8 .f32)

/-- The input projection of a row, as real numbers. -/
def rows (r : Fin 16384) (d : Fin 128) : ℝ :=
  x0 (op (ix1 r)) (a (ix1 r)) (b (ix1 r)) (cc (ix1 r)) (fun i k => (E (ix2 i k)).toReal) (fun i k => (W (ix2 i k)).toReal) d

/-- A row after the mixer, as real numbers. -/
def mixed (r : Fin 16384) (d : Fin 128) : ℝ :=
  x1 (rows op a b cc E W r) (fun k d => (mix (ix2 k d)).toReal) d

/-- The entropies of both layers over every row, with a number added inside the logarithms. -/
def ents (e : ℝ) : ℝ :=
  (∑ r, ente e (sc (mixed op a b cc E W mix r) (fun t k => s0 (ix2 t k))))
    + ∑ r, ente e (sc (x2 (mixed op a b cc E W mix r) (fun t k => s0 (ix2 t k)) (fun t d => (v0 (ix2 t d)).toReal)) (fun t k => s1 (ix2 t k)))

variable (G : Good op a b cc E W bi mix bm v0 b1 b2)
include G

/-- The kernel's input projection, read at an element. -/
theorem kx0 (d : Fin 128) (r : Fin 16384) :
    Cert.KernelIdeal.Val.X0 op a b cc E W (ix2 d r) = (rows op a b cc E W r d : EReal) :=
  Cert.KernelIdeal.Val.X0_at op a b cc E W _ _ (fun i k => G.Er (ix2 i k)) (fun i k => G.Wr (ix2 i k)) d r
    (G.op8 (ix1 r)) (G.a256 (ix1 r)) (G.b256 (ix1 r))

/-- The reference's rows after the mixer, read at an element. -/
theorem rx1 (r : Fin 16384) (d : Fin 128) :
    Cert.ReferenceIdeal.Val.X1A op a b cc E W bi mix bm (ix3 r 0 d) = (mixed op a b cc E W mix r d : EReal) :=
  Cert.ReferenceIdeal.Val.X1R_real _ mix bm r _ _
    (fun d => Cert.ReferenceIdeal.Val.X0R_real op a b cc E W bi _ _ (fun i k => G.Er (ix2 i k)) (fun i k => G.Wr (ix2 i k)) (fun k => G.bi0 (ix1 k)) r d
      (G.op8 (ix1 r)) (G.c2 (ix1 r)))
    (fun k d => G.mixr (ix2 k d)) (fun k => G.bm0 (ix1 k)) d

/-- The kernel's first result, transposed, is the reference's. -/
theorem out_eq :
    transpose Cert.KernelIdeal.S16384x8 [1, 0] (Cert.KernelIdeal.Val.OUT (Cert.KernelIdeal.Val.X0 op a b cc E W) mix s0 v0 s1 v1 w1 w2) Cert.KernelIdeal.Gen.transposes_S8x16384_S16384x8_1_0
      = Cert.ReferenceIdeal.Val.OUTR (Cert.ReferenceIdeal.Val.X1A op a b cc E W bi mix bm) s0 v0 s1 v1 w1 b1 w2 b2 := by
  have key : ∀ (r : Fin 16384) (d : Fin 8),
      transpose Cert.KernelIdeal.S16384x8 [1, 0] (Cert.KernelIdeal.Val.OUT (Cert.KernelIdeal.Val.X0 op a b cc E W) mix s0 v0 s1 v1 w1 w2) Cert.KernelIdeal.Gen.transposes_S8x16384_S16384x8_1_0 (ix2 r d : Cert.KernelIdeal.S16384x8.Idx)
        = Cert.ReferenceIdeal.Val.OUTR (Cert.ReferenceIdeal.Val.X1A op a b cc E W bi mix bm) s0 v0 s1 v1 w1 b1 w2 b2 (ix2 r d) := fun r d => by
    rw [Cert.ReferenceIdeal.Val.OUTR_at _ s0 v0 s1 v1 w1 b1 w2 b2 (mixed op a b cc E W mix) _ (rx1 op a b cc E W bi mix bm v0 b1 b2 G) (fun t d => G.v0r (ix2 t d))
      (fun h => G.b10 (ix1 h)) (fun d => G.b20 (ix1 d)) r d]
    pointwise
    exact Cert.KernelIdeal.Val.OUT_at _ mix s0 v0 s1 v1 w1 w2 (rows op a b cc E W) _ _ (kx0 op a b cc E W bi mix bm v0 b1 b2 G) (fun k d => G.mixr (ix2 k d)) (fun t d => G.v0r (ix2 t d)) d r
  funext i
  idx_vars i
  exact key _ _

/-- The kernel's second result is the entropies' part and the penalties. -/
theorem aux_k :
    Cert.KernelIdeal.Val.AUX (Cert.KernelIdeal.Val.X0 op a b cc E W) mix s0 v0 s1 (ix2 0 0 : Cert.KernelIdeal.S1x1.Idx)
      = aux (ents op a b cc E W mix s0 v0 s1 0) (fun t k => s0 (ix2 t k)) (fun t k => s1 (ix2 t k)) := by
  rw [Cert.KernelIdeal.Val.AUX_at _ mix s0 v0 s1 (rows op a b cc E W) (fun k d => (mix (ix2 k d)).toReal) (fun t d => (v0 (ix2 t d)).toReal) (kx0 op a b cc E W bi mix bm v0 b1 b2 G)
    (fun k d => G.mixr (ix2 k d)) (fun t d => G.v0r (ix2 t d)), cneg, ← EReal.coe_mul, Finset.sum_add_distrib]
  simp only [aux, ents, ente_zero]
  rfl

/-- The reference's second result, with a number added inside the logarithms. -/
theorem aux_r (lg : FVec Ideal Cert.ReferenceIdeal.S16384x1x64 .f32 → FVec Ideal Cert.ReferenceIdeal.S16384x1x64 .f32) (e : ℝ)
    (hl : ∀ (p : FVec Ideal Cert.ReferenceIdeal.S16384x1x64 .f32) (r : Fin 16384) (t : Fin 64) (q : ℝ), 0 < q → p (ix3 r 0 t) = (q : EReal)
      → lg p (ix3 r 0 t) = (Real.log (q + e) : EReal)) :
    Cert.ReferenceIdeal.Val.AUXG lg (Cert.ReferenceIdeal.Val.X1A op a b cc E W bi mix bm) s0 v0 s1 ix0
      = aux (ents op a b cc E W mix s0 v0 s1 e) (fun t k => s0 (ix2 t k)) (fun t k => s1 (ix2 t k)) :=
  Cert.ReferenceIdeal.Val.AUXG_at _ s0 v0 s1 (mixed op a b cc E W mix) _ (rx1 op a b cc E W bi mix bm v0 b1 b2 G) (fun t d => G.v0r (ix2 t d)) lg e hl

/-- The kernel's second result, reshaped, read at its one element. -/
theorem res1_k :
    shapeCast Cert.KernelIdeal.S_ (Cert.KernelIdeal.Val.AUX (Cert.KernelIdeal.Val.X0 op a b cc E W) mix s0 v0 s1) Cert.KernelIdeal.Gen.shapeCasts_S1x1_S_ (ix0 : Cert.KernelIdeal.S_.Idx)
      = aux (ents op a b cc E W mix s0 v0 s1 0) (fun t k => s0 (ix2 t k)) (fun t k => s1 (ix2 t k)) := by
  rw [← aux_k op a b cc E W bi mix bm s0 v0 s1 b1 b2 G]
  pointwise

/-- The kernel's second result is the reference's. -/
theorem aux_meet :
    shapeCast Cert.KernelIdeal.S_ (Cert.KernelIdeal.Val.AUX (Cert.KernelIdeal.Val.X0 op a b cc E W) mix s0 v0 s1) Cert.KernelIdeal.Gen.shapeCasts_S1x1_S_
      = Cert.ReferenceIdeal.Val.AUXG Host.log (Cert.ReferenceIdeal.Val.X1A op a b cc E W bi mix bm) s0 v0 s1 := by
  have key : shapeCast Cert.KernelIdeal.S_ (Cert.KernelIdeal.Val.AUX (Cert.KernelIdeal.Val.X0 op a b cc E W) mix s0 v0 s1) Cert.KernelIdeal.Gen.shapeCasts_S1x1_S_ (ix0 : Cert.KernelIdeal.S_.Idx)
      = Cert.ReferenceIdeal.Val.AUXG Host.log (Cert.ReferenceIdeal.Val.X1A op a b cc E W bi mix bm) s0 v0 s1 ix0 :=
    (res1_k op a b cc E W bi mix bm s0 v0 s1 b1 b2 G).trans
      (aux_r op a b cc E W bi mix bm s0 v0 s1 b1 b2 G Host.log 0 Cert.ReferenceIdeal.Val.log_at).symm
  funext i
  rw [show i = (ix0 : Cert.KernelIdeal.S_.Idx) from funext fun k => k.elim0]
  exact key

end Cert.Alu

end
-- ==== Proof.Near.lean ====
module

public import proofs.«01_k».proof.Proof.Meet

@[expose] public section

set_option maxRecDepth 16384

noncomputable section

/-! The kernel's second result against the reference's with a number added inside the entropy's logarithms. -/

namespace Cert.Alu

open Idealize.ShloMosaic

/-- The bound, as a real number. -/
theorem cbound : Ideal.ofBits .f32 0x3032ABAF#32 = ((11709359 / 2 ^ 54 : ℝ) : EReal) := by
  simp [Ideal.ofBits, Ideal.ieee]; norm_num; rw [← EReal.coe_mul]; congr 1; norm_num

/-- Over every row, a number added inside the logarithms moves the two layers' entropies by at most 128 times it a row. -/
theorem ents_eps (y0 y1 : Fin 16384 → Fin 64 → ℝ) (e : ℝ) (he : 0 ≤ e) :
    |((∑ r, ente 0 (y0 r)) + ∑ r, ente 0 (y1 r)) - ((∑ r, ente e (y0 r)) + ∑ r, ente e (y1 r))| ≤ 16384 * (128 * e) := by
  have h : ((∑ r, ente 0 (y0 r)) + ∑ r, ente 0 (y1 r)) - ((∑ r, ente e (y0 r)) + ∑ r, ente e (y1 r))
      = - ∑ r : Fin 16384, ((ente e (y0 r) - ent (y0 r)) + (ente e (y1 r) - ent (y1 r))) := by
    simp only [ente_zero, Finset.sum_add_distrib, Finset.sum_sub_distrib]
    ring
  have h0 : 0 ≤ ∑ r : Fin 16384, ((ente e (y0 r) - ent (y0 r)) + (ente e (y1 r) - ent (y1 r))) :=
    Finset.sum_nonneg fun r _ => add_nonneg (ent_eps (y0 r) e he).1 (ent_eps (y1 r) e he).1
  rw [h, abs_neg, abs_of_nonneg h0]
  refine (Finset.sum_le_sum fun r _ => add_le_add (ent_eps (y0 r) e he).2 (ent_eps (y1 r) e he).2).trans ?_
  rw [Finset.sum_const, Finset.card_univ, Fintype.card_fin, nsmul_eq_mul]
  refine le_of_eq ?_
  push_cast
  ring

/-- Two totals that differ in their entropies only are as near as the entropies are. -/
theorem aux_near (l l' : ℝ) (s0 s1 : Fin 64 → Fin 128 → EReal) (h : |l - l'| ≤ 16384 * (128 * (9007199 / 2 ^ 53))) :
    max (aux l s0 s1 - aux l' s0 s1) (-(aux l s0 s1 - aux l' s0 s1)) ≤ Ideal.ofBits .f32 0x3032ABAF#32 := by
  obtain ⟨t, ht⟩ := aux_real s0 s1
  rw [ht, ht, ← EReal.coe_sub, ← EReal.coe_neg, ← EReal.coe_strictMono.monotone.map_max, cbound, EReal.coe_le_coe_iff,
    show -(10737418 / 2 ^ 31) / 16384 * l + t - (-(10737418 / 2 ^ 31) / 16384 * l' + t) = -((10737418 / 2 ^ 31) / 16384 * (l - l')) by ring, neg_neg, max_comm]
  change |(10737418 / 2 ^ 31) / 16384 * (l - l')| ≤ _
  rw [abs_mul, abs_of_pos (by norm_num : (0 : ℝ) < (10737418 / 2 ^ 31) / 16384)]
  refine (mul_le_mul_of_nonneg_left h (by norm_num)).trans ?_
  norm_num

/-- The logarithms of an array with the small constant added to every entry. -/
def lgs [Cert.Post_near.Facts] (p : FVec Ideal Cert.ReferenceIdeal.S16384x1x64 .f32) : FVec Ideal Cert.ReferenceIdeal.S16384x1x64 .f32 :=
  Host.log (addf p (broadcastInDim Cert.Post_near.S16384x1x64 ![] Cert.Post_near.Facts.bcast_S_S16384x1x64 (constant Cert.Post_near.S_ .f32 0x3089705F#32)))

/-- At a positive entry, the logarithm of the entry and the constant. -/
theorem lgs_at [Cert.Post_near.Facts] (p : FVec Ideal Cert.ReferenceIdeal.S16384x1x64 .f32) (r : Fin 16384) (t : Fin 64) (q : ℝ) (hq : 0 < q)
    (hp : p (ix3 r 0 t) = (q : EReal)) : lgs p (ix3 r 0 t) = (Real.log (q + 9007199 / 2 ^ 53) : EReal) := by
  change Ideal.log (p (ix3 r 0 t) + Ideal.ofBits .f32 0x3089705F#32) = _
  rw [hp, ceps, ← EReal.coe_add, Ideal.log_coe, if_neg (not_le.2 (by positivity))]

/-- The postcondition's mask, of the arguments and the kernel's second result. -/
theorem near_fn [Cert.Post_near.Facts] (op a b cc : IVec Cert.KernelIdeal.S16384 32) (E : FVec Ideal Cert.KernelIdeal.S8x32 .f32) (W : FVec Ideal Cert.KernelIdeal.S49x128 .f32)
    (bi : FVec Ideal Cert.ReferenceIdeal.S128 .f32) (mix : FVec Ideal Cert.KernelIdeal.S128x128 .f32) (bm : FVec Ideal Cert.ReferenceIdeal.S128 .f32)
    (s0 v0 s1 v1 : FVec Ideal Cert.KernelIdeal.S64x128 .f32) (w1 : FVec Ideal Cert.KernelIdeal.S128x64 .f32) (b1 : FVec Ideal Cert.ReferenceIdeal.S64 .f32)
    (w2 : FVec Ideal Cert.KernelIdeal.S64x8 .f32) (b2 : FVec Ideal Cert.ReferenceIdeal.S8 .f32) (o : FVec Ideal Cert.KernelIdeal.S16384x8 .f32) (x : FVec Ideal Cert.KernelIdeal.S_ .f32) :
    Cert.Post_near.fn (F := Ideal) op a b cc E W bi mix bm s0 v0 s1 v1 w1 b1 w2 b2 o x
      = cmpf .ole (Host.absf (subf x (Cert.ReferenceIdeal.Val.AUXG lgs (Cert.ReferenceIdeal.Val.X1A op a b cc E W bi mix bm) s0 v0 s1)))
          (constant Cert.Post_near.S_ .f32 0x3032ABAF#32) := rfl

/-- The comparison of two scalars' distance with a bound is set where the distance is within the bound. -/
theorem mask_le (x y : FVec Ideal Cert.KernelIdeal.S_ .f32) (k : BitVec 32)
    (h : max (x ix0 - y ix0) (-(x ix0 - y ix0)) ≤ Ideal.ofBits .f32 k) :
    cmpf .ole (Host.absf (subf x y)) (constant Cert.Post_near.S_ .f32 k) (ix0 : Cert.KernelIdeal.S_.Idx) = 1#1 := by
  change BitVec.ofBool (decide _) = 1#1
  exact (congrArg BitVec.ofBool (decide_eq_true (p := max (x ix0 - y ix0) (-(x ix0 - y ix0)) ≤ Ideal.ofBits .f32 k) h) :)

/-- Where the precondition holds, the kernel's second result meets the postcondition. -/
theorem near_holds [Cert.Post_near.Facts] (op a b cc : IVec Cert.KernelIdeal.S16384 32) (E : FVec Ideal Cert.KernelIdeal.S8x32 .f32) (W : FVec Ideal Cert.KernelIdeal.S49x128 .f32)
    (bi : FVec Ideal Cert.ReferenceIdeal.S128 .f32) (mix : FVec Ideal Cert.KernelIdeal.S128x128 .f32) (bm : FVec Ideal Cert.ReferenceIdeal.S128 .f32)
    (s0 v0 s1 v1 : FVec Ideal Cert.KernelIdeal.S64x128 .f32) (w1 : FVec Ideal Cert.KernelIdeal.S128x64 .f32) (b1 : FVec Ideal Cert.ReferenceIdeal.S64 .f32)
    (w2 : FVec Ideal Cert.KernelIdeal.S64x8 .f32) (b2 : FVec Ideal Cert.ReferenceIdeal.S8 .f32) (o : FVec Ideal Cert.KernelIdeal.S16384x8 .f32)
    (G : Good op a b cc E W bi mix bm v0 b1 b2) :
    Cert.Post_near.fn (F := Ideal) op a b cc E W bi mix bm s0 v0 s1 v1 w1 b1 w2 b2 o
      (shapeCast Cert.KernelIdeal.S_ (Cert.KernelIdeal.Val.AUX (Cert.KernelIdeal.Val.X0 op a b cc E W) mix s0 v0 s1) Cert.KernelIdeal.Gen.shapeCasts_S1x1_S_)
      = fun _ => 1#1 := by
  rw [near_fn]
  funext i
  rw [show i = (ix0 : Cert.KernelIdeal.S_.Idx) from funext fun k => k.elim0]
  have h1 := res1_k op a b cc E W bi mix bm s0 v0 s1 b1 b2 G
  have h2 := aux_r op a b cc E W bi mix bm s0 v0 s1 b1 b2 G lgs (9007199 / 2 ^ 53) lgs_at
  have h3 : |ents op a b cc E W mix s0 v0 s1 0 - ents op a b cc E W mix s0 v0 s1 (9007199 / 2 ^ 53)| ≤ 16384 * (128 * (9007199 / 2 ^ 53)) := by
    unfold ents
    exact ents_eps _ _ _ (by norm_num)
  have h4 := aux_near _ _ (fun t k => s0 (ix2 t k)) (fun t k => s1 (ix2 t k)) h3
  rw [← h1, ← h2] at h4
  exact mask_le _ _ _ h4

end Cert.Alu

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.KRun
public import proofs.«01_k».proof.Proof.RRun
public import proofs.«01_k».proof.Proof.Near
public import Idealize.ShloMosaic.Adequacy
public import Idealize.ShloMosaic.Init

@[expose] public section

set_option maxRecDepth 16384

noncomputable section

namespace Cert.Proof

open Idealize.ShloMosaic Idealize.SL.Sem

/-- Every execution of the kernel as printed ends, its arguments unchanged and its counters at zero. -/
theorem frame_p : Cert.quiescent_Kernel := fun m g _ => Cert.Kernel.Gen.frame m g

/-- Every execution of the idealized kernel ends, its arguments unchanged and its counters at zero. -/
theorem frame_pi : Cert.quiescent_KernelIdeal := fun m g _ => Cert.KernelIdeal.Gen.frame m g

/-- Every execution of the idealized reference ends, its arguments unchanged and its counters at zero. -/
theorem frame_r : Cert.quiescent_ReferenceIdeal := fun m g _ =>
  (θ_run (Cert.ReferenceIdeal.defs (F := Ideal)) _ _).mono
    (fun r h => ⟨fun c => (h c).2.2, sem_eq_zero_of_no_sems (by decide) r.2⟩)
    (Cert.ReferenceIdeal.Val.run m g)

/-- Of a memory of which the precondition holds, what it says of each device's argument arrays. -/
theorem pre_good [Cert.Pre_pre.Facts] (m : (ℓ : Loc Cert.KernelIdeal.nD Cert.KernelIdeal.τ Cert.KernelIdeal.sig) → Buf (Elt Ideal) ℓ)
    (h : Cert.Pre_KernelIdeal_pre m) (c : Dev Cert.KernelIdeal.nD) :
    Cert.Alu.Good (m (c.tc.loc Cert.KernelIdeal.main_arg0)) (m (c.tc.loc Cert.KernelIdeal.main_arg1)) (m (c.tc.loc Cert.KernelIdeal.main_arg2))
      (m (c.tc.loc Cert.KernelIdeal.main_arg3)) (m (c.tc.loc Cert.KernelIdeal.main_arg4)) (m (c.tc.loc Cert.KernelIdeal.main_arg5))
      (m (c.tc.loc Cert.KernelIdeal.main_arg6)) (m (c.tc.loc Cert.KernelIdeal.main_arg7)) (m (c.tc.loc Cert.KernelIdeal.main_arg8))
      (m (c.tc.loc Cert.KernelIdeal.main_arg10)) (m (c.tc.loc Cert.KernelIdeal.main_arg14)) (m (c.tc.loc Cert.KernelIdeal.main_arg16)) :=
  Cert.Alu.good _ _ _ _ _ _ _ _ _ (m (c.tc.loc Cert.KernelIdeal.main_arg9)) _ (m (c.tc.loc Cert.KernelIdeal.main_arg11)) (m (c.tc.loc Cert.KernelIdeal.main_arg12))
    (m (c.tc.loc Cert.KernelIdeal.main_arg13)) _ (m (c.tc.loc Cert.KernelIdeal.main_arg15)) _ ⟨_, rfl, h c⟩

/-- From memories that agree on the arguments, and of which the precondition holds, both idealized programs end with
    both results equal. -/
theorem algebraic [Cert.Pre_pre.Facts] : Cert.algebraic_KernelIdeal_ReferenceIdeal_pre_pre := by
  intro m g m' g' hpre hagree
  refine ⟨Cert.KernelIdeal.Val.RES0 m, Cert.KernelIdeal.Val.RES1 m, ?_, ?_⟩
  · exact (θ_run (Cert.KernelIdeal.defs (F := Ideal)) _ _).mono
      (fun r h c => ⟨(h.1 c).1, (h.1 c).2, h.2.1 c⟩) (θ_run_and (Cert.KernelIdeal.Val.run m g) (Cert.KernelIdeal.Gen.frame m g))
  · refine (θ_run (Cert.ReferenceIdeal.defs (F := Ideal)) _ _).mono (fun r h c => ⟨(h c).1.trans ?_, (h c).2.1.trans ?_, (h c).2.2⟩) (Cert.ReferenceIdeal.Val.run m' g')
    · obtain ⟨e0, e1, e2, e3, e4, e5, e6, e7, e8, e9, e10, e11, e12, e13, e14, e15, e16⟩ := hagree c
      unfold Cert.ReferenceIdeal.Val.OUTRm Cert.ReferenceIdeal.Val.X1m
      rw [e0, e1, e2, e3, e4, e5, e6, e7, e8, e9, e10, e11, e12, e13, e14, e15, e16]
      exact (Cert.Alu.out_eq _ _ _ _ _ _ _ _ _ _ _ _ _ _ _ _ _ (pre_good m hpre c)).symm
    · obtain ⟨e0, e1, e2, e3, e4, e5, e6, e7, e8, e9, e10, e11, e12, e13, e14, e15, e16⟩ := hagree c
      unfold Cert.ReferenceIdeal.Val.AUXRm Cert.ReferenceIdeal.Val.X1m
      rw [e0, e1, e2, e3, e4, e5, e6, e7, e8, e9, e10, e11]
      exact (Cert.Alu.aux_meet _ _ _ _ _ _ _ _ _ _ _ _ _ _ (pre_good m hpre c)).symm

/-- From a memory of which the precondition holds, the idealized kernel ends with its second result within the bound
    of the reference's with the small constant inside the entropy's logarithms. -/
theorem near [Cert.Pre_pre.Facts] [Cert.Post_near.Facts] : Cert.holds_KernelIdeal_near_pre_pre := by
  intro m g hpre
  refine (θ_run (Cert.KernelIdeal.defs (F := Ideal)) _ _).mono (fun r h c => ?_) (θ_run_and (Cert.KernelIdeal.Val.run m g) (Cert.KernelIdeal.Gen.frame m g))
  obtain ⟨h0, h1, h2, h3, h4, h5, h6, h7, h8, h9, h10, h11, h12, h13, h14, h15, h16⟩ := h.2.1 c
  refine ⟨h0, h1, h2, h3, h4, h5, h6, h7, h8, h9, h10, h11, h12, h13, h14, h15, h16, ?_⟩
  rw [(h.1 c).2]
  exact Cert.Alu.near_holds _ _ _ _ _ _ _ _ _ _ _ _ _ _ _ _ _ _ (pre_good m hpre c)

/-- Everything the certificate claims. -/
theorem claim : Cert.Claim :=
  ⟨Cert.Kernel.Gen.facts, Cert.KernelIdeal.Gen.facts, Cert.ReferenceIdeal.Gen.facts, Cert.Alu.preFacts, Cert.Alu.postFacts,
    frame_p, frame_pi, fun m g _ => Cert.KernelIdeal.Gen.frame m g, frame_r, fun m g _ => frame_r m g trivial, trivial,
    @algebraic Cert.Alu.preFacts, @near Cert.Alu.preFacts Cert.Alu.postFacts⟩

end Cert.Proof

end
